-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.bf16_pair.BufferStatement Cert.KernelIdeal.S224x2x512 Cert.KernelIdeal.S224x1x512
  ∧ IdealRules.bf16_pair.PackStatement Cert.KernelIdeal.S16x128
  ∧ IdealRules.bf16_pair.Statement Cert.KernelIdeal.S16x2x128 Cert.KernelIdeal.S16x1x128
  ∧ IdealRules.bf16_pair.Statement Cert.KernelIdeal.S1x2x128 Cert.KernelIdeal.S1x1x128
  ∧ IdealRules.bf16_pair.Statement Cert.KernelIdeal.S16x128 Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1x3584 : Shape := ⟨3, ![256, 1, 3584]⟩
abbrev S37888x14x2x64 : Shape := ⟨4, ![37888, 14, 2, 64]⟩
abbrev S37888x14x2x32 : Shape := ⟨4, ![37888, 14, 2, 32]⟩
abbrev S37888x14x16 : Shape := ⟨3, ![37888, 14, 16]⟩
abbrev S37888x14 : Shape := ⟨2, ![37888, 14]⟩
abbrev S256x3584 : Shape := ⟨2, ![256, 3584]⟩
abbrev S14x2x64x37888 : Shape := ⟨4, ![14, 2, 64, 37888]⟩
abbrev S1792x37888 : Shape := ⟨2, ![1792, 37888]⟩
abbrev S14x2x32x37888 : Shape := ⟨4, ![14, 2, 32, 37888]⟩
abbrev S896x37888 : Shape := ⟨2, ![896, 37888]⟩
abbrev S14x16x37888 : Shape := ⟨3, ![14, 16, 37888]⟩
abbrev S14x37888 : Shape := ⟨2, ![14, 37888]⟩
abbrev S256x37888 : Shape := ⟨2, ![256, 37888]⟩
abbrev S1792x512 : Shape := ⟨2, ![1792, 512]⟩
abbrev S896x512 : Shape := ⟨2, ![896, 512]⟩
abbrev S14x16x512 : Shape := ⟨3, ![14, 16, 512]⟩
abbrev S14x512 : Shape := ⟨2, ![14, 512]⟩
abbrev S256x512 : Shape := ⟨2, ![256, 512]⟩
abbrev S224x512 : Shape := ⟨2, ![224, 512]⟩
abbrev S14x128 : Shape := ⟨2, ![14, 128]⟩
abbrev S1x16x128 : Shape := ⟨3, ![1, 16, 128]⟩
abbrev S16x128 : Shape := ⟨2, ![16, 128]⟩
abbrev S1x128 : Shape := ⟨2, ![1, 128]⟩
abbrev S256x256 : Shape := ⟨2, ![256, 256]⟩
abbrev S32x128 : Shape := ⟨2, ![32, 128]⟩
abbrev S8x128 : Shape := ⟨2, ![8, 128]⟩
abbrev S128x128 : Shape := ⟨2, ![128, 128]⟩
abbrev S256x128 : Shape := ⟨2, ![256, 128]⟩

abbrev nBuf : Space → Nat
  | .hbm => 23
  | .vmem => 21
  | .smem => 0
  | _ => 0

abbrev bufTy : (tb : Table) → Fin (tcTables nBuf tb) → BufTy
  | .hbm, ⟨0, _⟩ => ⟨S256x1x3584, .bf16⟩
  | .hbm, ⟨1, _⟩ => ⟨S37888x14x2x64, .i8⟩
  | .hbm, ⟨2, _⟩ => ⟨S37888x14x2x32, .i8⟩
  | .hbm, ⟨3, _⟩ => ⟨S37888x14x16, .i8⟩
  | .hbm, ⟨4, _⟩ => ⟨S37888x14, .i16⟩
  | .hbm, ⟨5, _⟩ => ⟨S37888x14x2x64, .i8⟩
  | .hbm, ⟨6, _⟩ => ⟨S37888x14x2x32, .i8⟩
  | .hbm, ⟨7, _⟩ => ⟨S37888x14x16, .i8⟩
  | .hbm, ⟨8, _⟩ => ⟨S37888x14, .i16⟩
  | .hbm, ⟨9, _⟩ => ⟨S256x3584, .bf16⟩
  | .hbm, ⟨10, _⟩ => ⟨S14x2x64x37888, .i8⟩
  | .hbm, ⟨11, _⟩ => ⟨S1792x37888, .i8⟩
  | .hbm, ⟨12, _⟩ => ⟨S14x2x32x37888, .i8⟩
  | .hbm, ⟨13, _⟩ => ⟨S896x37888, .i8⟩
  | .hbm, ⟨14, _⟩ => ⟨S14x16x37888, .i8⟩
  | .hbm, ⟨15, _⟩ => ⟨S14x37888, .i16⟩
  | .hbm, ⟨16, _⟩ => ⟨S14x2x64x37888, .i8⟩
  | .hbm, ⟨17, _⟩ => ⟨S1792x37888, .i8⟩
  | .hbm, ⟨18, _⟩ => ⟨S14x2x32x37888, .i8⟩
  | .hbm, ⟨19, _⟩ => ⟨S896x37888, .i8⟩
  | .hbm, ⟨20, _⟩ => ⟨S14x16x37888, .i8⟩
  | .hbm, ⟨21, _⟩ => ⟨S14x37888, .i16⟩
  | .hbm, ⟨22, _⟩ => ⟨S256x37888, .bf16⟩
  | .local _ .vmem, ⟨0, _⟩ => ⟨S256x3584, .bf16⟩
  | .local _ .vmem, ⟨1, _⟩ => ⟨S1792x512, .i8⟩
  | .local _ .vmem, ⟨2, _⟩ => ⟨S1792x512, .i8⟩
  | .local _ .vmem, ⟨3, _⟩ => ⟨S896x512, .i8⟩
  | .local _ .vmem, ⟨4, _⟩ => ⟨S896x512, .i8⟩
  | .local _ .vmem, ⟨5, _⟩ => ⟨S14x16x512, .i8⟩
  | .local _ .vmem, ⟨6, _⟩ => ⟨S14x16x512, .i8⟩
  | .local _ .vmem, ⟨7, _⟩ => ⟨S14x512, .i16⟩
  | .local _ .vmem, ⟨8, _⟩ => ⟨S14x512, .i16⟩
  | .local _ .vmem, ⟨9, _⟩ => ⟨S1792x512, .i8⟩
  | .local _ .vmem, ⟨10, _⟩ => ⟨S1792x512, .i8⟩
  | .local _ .vmem, ⟨11, _⟩ => ⟨S896x512, .i8⟩
  | .local _ .vmem, ⟨12, _⟩ => ⟨S896x512, .i8⟩
  | .local _ .vmem, ⟨13, _⟩ => ⟨S14x16x512, .i8⟩
  | .local _ .vmem, ⟨14, _⟩ => ⟨S14x16x512, .i8⟩
  | .local _ .vmem, ⟨15, _⟩ => ⟨S14x512, .i16⟩
  | .local _ .vmem, ⟨16, _⟩ => ⟨S14x512, .i16⟩
  | .local _ .vmem, ⟨17, _⟩ => ⟨S256x512, .bf16⟩
  | .local _ .vmem, ⟨18, _⟩ => ⟨S256x512, .bf16⟩
  | .local _ .vmem, ⟨19, _⟩ => ⟨S224x512, .i32⟩
  | .local _ .vmem, ⟨20, _⟩ => ⟨S224x512, .i32⟩
  | _, _ => ⟨S256x1x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [BitOps F]

abbrev grid0 : Pipeline.Grid := ⟨1, ![74], ![false]⟩

@[reducible] def k0_t1_loop : Scf.Loop 32 :=
  let c0_i32_642 : BitVec 32 := 0#32
  let c14_i32 : BitVec 32 := 14#32
  let v1401 : BitVec 32 := Scalar.addi c0_i32_642 c14_i32
  let c1_i32 : BitVec 32 := 1#32
  ⟨c0_i32_642, v1401, c1_i32⟩
def k0_off1 (k0_t1 : Fin k0_t1_loop.trips) : Fin 2 → Nat :=
  let c0_653 : Index := 0#32
  let c0_i32_642 : BitVec 32 := 0#32
  let c1_i32 : BitVec 32 := 1#32
  let arg13 : BitVec 32 := Scf.iv c0_i32_642 c1_i32 k0_t1
  let c256_i32 : BitVec 32 := 256#32
  let v1416 : BitVec 32 := Scalar.muli arg13 c256_i32
  let v1417 : Index := Scalar.indexCast v1416
  ![0, v1417.toNat]
def k0_off2 (k0_t1 : Fin k0_t1_loop.trips) (c0_i32_654 : BitVec 32) : Fin 2 → Nat :=
  let c0_i32_642 : BitVec 32 := 0#32
  let c1_i32 : BitVec 32 := 1#32
  let arg13 : BitVec 32 := Scf.iv c0_i32_642 c1_i32 k0_t1
  let c128_i32 : BitVec 32 := 128#32
  let v1420 : BitVec 32 := Scalar.muli arg13 c128_i32
  let v1421 : BitVec 32 := Scalar.addi v1420 c0_i32_654
  let v1424 : Index := Scalar.indexCast v1421
  let c0_656 : Index := 0#32
  ![v1424.toNat, 0]
def k0_off3 (k0_t1 : Fin k0_t1_loop.trips) (c0_i32_654 : BitVec 32) : Fin 2 → Nat :=
  let c0_i32_642 : BitVec 32 := 0#32
  let c1_i32 : BitVec 32 := 1#32
  let arg13 : BitVec 32 := Scf.iv c0_i32_642 c1_i32 k0_t1
  let c128_i32 : BitVec 32 := 128#32
  let v1420 : BitVec 32 := Scalar.muli arg13 c128_i32
  let v1421 : BitVec 32 := Scalar.addi v1420 c0_i32_654
  let c32_i32 : BitVec 32 := 32#32
  let v1428 : BitVec 32 := Scalar.addi v1421 c32_i32
  let v1429 : Index := Scalar.indexCast v1428
  let c0_657 : Index := 0#32
  ![v1429.toNat, 0]
def k0_off4 (k0_t1 : Fin k0_t1_loop.trips) (c0_i32_655 : BitVec 32) : Fin 2 → Nat :=
  let c0_i32_642 : BitVec 32 := 0#32
  let c1_i32 : BitVec 32 := 1#32
  let arg13 : BitVec 32 := Scf.iv c0_i32_642 c1_i32 k0_t1
  let c64_i32 : BitVec 32 := 64#32
  let v1422 : BitVec 32 := Scalar.muli arg13 c64_i32
  let v1423 : BitVec 32 := Scalar.addi v1422 c0_i32_655
  let v1433 : Index := Scalar.indexCast v1423
  let c0_658 : Index := 0#32
  ![v1433.toNat, 0]
def k0_off5 (k0_t1 : Fin k0_t1_loop.trips) (c0_i32_670 : BitVec 32) (c0_i32_671 : BitVec 32) (c0_i32_672 : BitVec 32) : Fin 2 → Nat :=
  let c0_i32_642 : BitVec 32 := 0#32
  let c1_i32 : BitVec 32 := 1#32
  let arg13 : BitVec 32 := Scf.iv c0_i32_642 c1_i32 k0_t1
  let c16_i32_669 : BitVec 32 := 16#32
  let v1475 : BitVec 32 := Scalar.muli arg13 c16_i32_669
  let v1476 : BitVec 32 := Scalar.addi v1475 c0_i32_670
  let v1477 : BitVec 32 := Scalar.addi v1476 c0_i32_671
  let v1478 : BitVec 32 := Scalar.addi v1477 c0_i32_672
  let v1479 : Index := Scalar.indexCast v1478
  let c0_673 : Index := 0#32
  ![v1479.toNat, 0]
def k0_off6 (k0_t1 : Fin k0_t1_loop.trips) (c0_i32_773 : BitVec 32) : Fin 2 → Nat :=
  let c0_i32_642 : BitVec 32 := 0#32
  let c1_i32 : BitVec 32 := 1#32
  let arg13 : BitVec 32 := Scf.iv c0_i32_642 c1_i32 k0_t1
  let c128_i32_772 : BitVec 32 := 128#32
  let v1705 : BitVec 32 := Scalar.muli arg13 c128_i32_772
  let v1706 : BitVec 32 := Scalar.addi v1705 c0_i32_773
  let v1709 : Index := Scalar.indexCast v1706
  let c128_776 : Index := 128#32
  ![v1709.toNat, 128]
def k0_off7 (k0_t1 : Fin k0_t1_loop.trips) (c0_i32_773 : BitVec 32) : Fin 2 → Nat :=
  let c0_i32_642 : BitVec 32 := 0#32
  let c1_i32 : BitVec 32 := 1#32
  let arg13 : BitVec 32 := Scf.iv c0_i32_642 c1_i32 k0_t1
  let c128_i32_772 : BitVec 32 := 128#32
  let v1705 : BitVec 32 := Scalar.muli arg13 c128_i32_772
  let v1706 : BitVec 32 := Scalar.addi v1705 c0_i32_773
  let c32_i32_777 : BitVec 32 := 32#32
  let v1713 : BitVec 32 := Scalar.addi v1706 c32_i32_777
  let v1714 : Index := Scalar.indexCast v1713
  let c128_778 : Index := 128#32
  ![v1714.toNat, 128]
def k0_off8 (k0_t1 : Fin k0_t1_loop.trips) (c0_i32_775 : BitVec 32) : Fin 2 → Nat :=
  let c0_i32_642 : BitVec 32 := 0#32
  let c1_i32 : BitVec 32 := 1#32
  let arg13 : BitVec 32 := Scf.iv c0_i32_642 c1_i32 k0_t1
  let c64_i32_774 : BitVec 32 := 64#32
  let v1707 : BitVec 32 := Scalar.muli arg13 c64_i32_774
  let v1708 : BitVec 32 := Scalar.addi v1707 c0_i32_775
  let v1718 : Index := Scalar.indexCast v1708
  let c128_779 : Index := 128#32
  ![v1718.toNat, 128]
def k0_off9 (k0_t1 : Fin k0_t1_loop.trips) (c0_i32_797 : BitVec 32) (c0_i32_798 : BitVec 32) (c0_i32_799 : BitVec 32) : Fin 2 → Nat :=
  let c0_i32_642 : BitVec 32 := 0#32
  let c1_i32 : BitVec 32 := 1#32
  let arg13 : BitVec 32 := Scf.iv c0_i32_642 c1_i32 k0_t1
  let c16_i32_796 : BitVec 32 := 16#32
  let v1760 : BitVec 32 := Scalar.muli arg13 c16_i32_796
  let v1761 : BitVec 32 := Scalar.addi v1760 c0_i32_797
  let v1762 : BitVec 32 := Scalar.addi v1761 c0_i32_798
  let v1763 : BitVec 32 := Scalar.addi v1762 c0_i32_799
  let v1764 : Index := Scalar.indexCast v1763
  let c128_800 : Index := 128#32
  ![v1764.toNat, 128]
@[reducible] def k0_t2_loop : Scf.Loop 32 :=
  let c0_i32_647 : BitVec 32 := 0#32
  let c14_i32_648 : BitVec 32 := 14#32
  let v1409 : BitVec 32 := Scalar.addi c0_i32_647 c14_i32_648
  let c1_i32_649 : BitVec 32 := 1#32
  ⟨c0_i32_647, v1409, c1_i32_649⟩
def k0_off10 (k0_t2 : Fin k0_t2_loop.trips) : Fin 2 → Nat :=
  let c0_653 : Index := 0#32
  let c0_i32_647 : BitVec 32 := 0#32
  let c1_i32_649 : BitVec 32 := 1#32
  let arg13 : BitVec 32 := Scf.iv c0_i32_647 c1_i32_649 k0_t2
  let c256_i32 : BitVec 32 := 256#32
  let v1416 : BitVec 32 := Scalar.muli arg13 c256_i32
  let v1417 : Index := Scalar.indexCast v1416
  ![0, v1417.toNat]
def k0_off11 (k0_t2 : Fin k0_t2_loop.trips) (c0_i32_654 : BitVec 32) : Fin 2 → Nat :=
  let c0_i32_647 : BitVec 32 := 0#32
  let c1_i32_649 : BitVec 32 := 1#32
  let arg13 : BitVec 32 := Scf.iv c0_i32_647 c1_i32_649 k0_t2
  let c128_i32 : BitVec 32 := 128#32
  let v1420 : BitVec 32 := Scalar.muli arg13 c128_i32
  let v1421 : BitVec 32 := Scalar.addi v1420 c0_i32_654
  let v1424 : Index := Scalar.indexCast v1421
  let c256_656 : Index := 256#32
  ![v1424.toNat, 256]
def k0_off12 (k0_t2 : Fin k0_t2_loop.trips) (c0_i32_654 : BitVec 32) : Fin 2 → Nat :=
  let c0_i32_647 : BitVec 32 := 0#32
  let c1_i32_649 : BitVec 32 := 1#32
  let arg13 : BitVec 32 := Scf.iv c0_i32_647 c1_i32_649 k0_t2
  let c128_i32 : BitVec 32 := 128#32
  let v1420 : BitVec 32 := Scalar.muli arg13 c128_i32
  let v1421 : BitVec 32 := Scalar.addi v1420 c0_i32_654
  let c32_i32 : BitVec 32 := 32#32
  let v1428 : BitVec 32 := Scalar.addi v1421 c32_i32
  let v1429 : Index := Scalar.indexCast v1428
  let c256_657 : Index := 256#32
  ![v1429.toNat, 256]
def k0_off13 (k0_t2 : Fin k0_t2_loop.trips) (c0_i32_655 : BitVec 32) : Fin 2 → Nat :=
  let c0_i32_647 : BitVec 32 := 0#32
  let c1_i32_649 : BitVec 32 := 1#32
  let arg13 : BitVec 32 := Scf.iv c0_i32_647 c1_i32_649 k0_t2
  let c64_i32 : BitVec 32 := 64#32
  let v1422 : BitVec 32 := Scalar.muli arg13 c64_i32
  let v1423 : BitVec 32 := Scalar.addi v1422 c0_i32_655
  let v1433 : Index := Scalar.indexCast v1423
  let c256_658 : Index := 256#32
  ![v1433.toNat, 256]
def k0_off14 (k0_t2 : Fin k0_t2_loop.trips) (c0_i32_670 : BitVec 32) (c0_i32_671 : BitVec 32) (c0_i32_672 : BitVec 32) : Fin 2 → Nat :=
  let c0_i32_647 : BitVec 32 := 0#32
  let c1_i32_649 : BitVec 32 := 1#32
  let arg13 : BitVec 32 := Scf.iv c0_i32_647 c1_i32_649 k0_t2
  let c16_i32_669 : BitVec 32 := 16#32
  let v1475 : BitVec 32 := Scalar.muli arg13 c16_i32_669
  let v1476 : BitVec 32 := Scalar.addi v1475 c0_i32_670
  let v1477 : BitVec 32 := Scalar.addi v1476 c0_i32_671
  let v1478 : BitVec 32 := Scalar.addi v1477 c0_i32_672
  let v1479 : Index := Scalar.indexCast v1478
  let c256_673 : Index := 256#32
  ![v1479.toNat, 256]
def k0_off15 (k0_t2 : Fin k0_t2_loop.trips) (c0_i32_773 : BitVec 32) : Fin 2 → Nat :=
  let c0_i32_647 : BitVec 32 := 0#32
  let c1_i32_649 : BitVec 32 := 1#32
  let arg13 : BitVec 32 := Scf.iv c0_i32_647 c1_i32_649 k0_t2
  let c128_i32_772 : BitVec 32 := 128#32
  let v1705 : BitVec 32 := Scalar.muli arg13 c128_i32_772
  let v1706 : BitVec 32 := Scalar.addi v1705 c0_i32_773
  let v1709 : Index := Scalar.indexCast v1706
  let c384_776 : Index := 384#32
  ![v1709.toNat, 384]
def k0_off16 (k0_t2 : Fin k0_t2_loop.trips) (c0_i32_773 : BitVec 32) : Fin 2 → Nat :=
  let c0_i32_647 : BitVec 32 := 0#32
  let c1_i32_649 : BitVec 32 := 1#32
  let arg13 : BitVec 32 := Scf.iv c0_i32_647 c1_i32_649 k0_t2
  let c128_i32_772 : BitVec 32 := 128#32
  let v1705 : BitVec 32 := Scalar.muli arg13 c128_i32_772
  let v1706 : BitVec 32 := Scalar.addi v1705 c0_i32_773
  let c32_i32_777 : BitVec 32 := 32#32
  let v1713 : BitVec 32 := Scalar.addi v1706 c32_i32_777
  let v1714 : Index := Scalar.indexCast v1713
  let c384_778 : Index := 384#32
  ![v1714.toNat, 384]
def k0_off17 (k0_t2 : Fin k0_t2_loop.trips) (c0_i32_775 : BitVec 32) : Fin 2 → Nat :=
  let c0_i32_647 : BitVec 32 := 0#32
  let c1_i32_649 : BitVec 32 := 1#32
  let arg13 : BitVec 32 := Scf.iv c0_i32_647 c1_i32_649 k0_t2
  let c64_i32_774 : BitVec 32 := 64#32
  let v1707 : BitVec 32 := Scalar.muli arg13 c64_i32_774
  let v1708 : BitVec 32 := Scalar.addi v1707 c0_i32_775
  let v1718 : Index := Scalar.indexCast v1708
  let c384_779 : Index := 384#32
  ![v1718.toNat, 384]
def k0_off18 (k0_t2 : Fin k0_t2_loop.trips) (c0_i32_797 : BitVec 32) (c0_i32_798 : BitVec 32) (c0_i32_799 : BitVec 32) : Fin 2 → Nat :=
  let c0_i32_647 : BitVec 32 := 0#32
  let c1_i32_649 : BitVec 32 := 1#32
  let arg13 : BitVec 32 := Scf.iv c0_i32_647 c1_i32_649 k0_t2
  let c16_i32_796 : BitVec 32 := 16#32
  let v1760 : BitVec 32 := Scalar.muli arg13 c16_i32_796
  let v1761 : BitVec 32 := Scalar.addi v1760 c0_i32_797
  let v1762 : BitVec 32 := Scalar.addi v1761 c0_i32_798
  let v1763 : BitVec 32 := Scalar.addi v1762 c0_i32_799
  let v1764 : Index := Scalar.indexCast v1763
  let c384_800 : Index := 384#32
  ![v1764.toNat, 384]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1792x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S896x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S14x16x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S14x512 .i16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1792x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S896x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S14x16x512 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S14x512 .i16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
abbrev S256x1x3584 : Shape := ⟨3, ![256, 1, 3584]⟩
abbrev S37888x14x2x64 : Shape := ⟨4, ![37888, 14, 2, 64]⟩
abbrev S37888x14x2x32 : Shape := ⟨4, ![37888, 14, 2, 32]⟩
abbrev S37888x14x16 : Shape := ⟨3, ![37888, 14, 16]⟩
abbrev S37888x14 : Shape := ⟨2, ![37888, 14]⟩
abbrev S256x3584 : Shape := ⟨2, ![256, 3584]⟩
abbrev S14x2x64x37888 : Shape := ⟨4, ![14, 2, 64, 37888]⟩
abbrev S1792x37888 : Shape := ⟨2, ![1792, 37888]⟩
abbrev S14x2x32x37888 : Shape := ⟨4, ![14, 2, 32, 37888]⟩
abbrev S896x37888 : Shape := ⟨2, ![896, 37888]⟩
abbrev S14x16x37888 : Shape := ⟨3, ![14, 16, 37888]⟩
abbrev S14x37888 : Shape := ⟨2, ![14, 37888]⟩
abbrev S256x37888 : Shape := ⟨2, ![256, 37888]⟩
abbrev S1792x512 : Shape := ⟨2, ![1792, 512]⟩
abbrev S896x512 : Shape := ⟨2, ![896, 512]⟩
abbrev S14x16x512 : Shape := ⟨3, ![14, 16, 512]⟩
abbrev S14x512 : Shape := ⟨2, ![14, 512]⟩
abbrev S256x512 : Shape := ⟨2, ![256, 512]⟩
abbrev S224x512 : Shape := ⟨2, ![224, 512]⟩
abbrev S224x2x512 : Shape := ⟨3, ![224, 2, 512]⟩
abbrev S224x1x512 : Shape := ⟨3, ![224, 1, 512]⟩
abbrev S14x128 : Shape := ⟨2, ![14, 128]⟩
abbrev S1x16x128 : Shape := ⟨3, ![1, 16, 128]⟩
abbrev S16x128 : Shape := ⟨2, ![16, 128]⟩
abbrev S1x128 : Shape := ⟨2, ![1, 128]⟩
abbrev S16x2x128 : Shape := ⟨3, ![16, 2, 128]⟩
abbrev S16x1x128 : Shape := ⟨3, ![16, 1, 128]⟩
abbrev S256x256 : Shape := ⟨2, ![256, 256]⟩
abbrev S32x128 : Shape := ⟨2, ![32, 128]⟩
abbrev S8x128 : Shape := ⟨2, ![8, 128]⟩
abbrev S1x2x128 : Shape := ⟨3, ![1, 2, 128]⟩
abbrev S1x1x128 : Shape := ⟨3, ![1, 1, 128]⟩
abbrev S128x128 : Shape := ⟨2, ![128, 128]⟩
abbrev S256x128 : Shape := ⟨2, ![256, 128]⟩

abbrev nBuf : Space → Nat
  | .hbm => 23
  | .vmem => 21
  | .smem => 0
  | _ => 0

abbrev bufTy : (tb : Table) → Fin (tcTables nBuf tb) → BufTy
  | .hbm, ⟨0, _⟩ => ⟨S256x1x3584, .bf16⟩
  | .hbm, ⟨1, _⟩ => ⟨S37888x14x2x64, .i8⟩
  | .hbm, ⟨2, _⟩ => ⟨S37888x14x2x32, .i8⟩
  | .hbm, ⟨3, _⟩ => ⟨S37888x14x16, .i8⟩
  | .hbm, ⟨4, _⟩ => ⟨S37888x14, .i16⟩
  | .hbm, ⟨5, _⟩ => ⟨S37888x14x2x64, .i8⟩
  | .hbm, ⟨6, _⟩ => ⟨S37888x14x2x32, .i8⟩
  | .hbm, ⟨7, _⟩ => ⟨S37888x14x16, .i8⟩
  | .hbm, ⟨8, _⟩ => ⟨S37888x14, .i16⟩
  | .hbm, ⟨9, _⟩ => ⟨S256x3584, .bf16⟩
  | .hbm, ⟨10, _⟩ => ⟨S14x2x64x37888, .i8⟩
  | .hbm, ⟨11, _⟩ => ⟨S1792x37888, .i8⟩
  | .hbm, ⟨12, _⟩ => ⟨S14x2x32x37888, .i8⟩
  | .hbm, ⟨13, _⟩ => ⟨S896x37888, .i8⟩
  | .hbm, ⟨14, _⟩ => ⟨S14x16x37888, .i8⟩
  | .hbm, ⟨15, _⟩ => ⟨S14x37888, .i16⟩
  | .hbm, ⟨16, _⟩ => ⟨S14x2x64x37888, .i8⟩
  | .hbm, ⟨17, _⟩ => ⟨S1792x37888, .i8⟩
  | .hbm, ⟨18, _⟩ => ⟨S14x2x32x37888, .i8⟩
  | .hbm, ⟨19, _⟩ => ⟨S896x37888, .i8⟩
  | .hbm, ⟨20, _⟩ => ⟨S14x16x37888, .i8⟩
  | .hbm, ⟨21, _⟩ => ⟨S14x37888, .i16⟩
  | .hbm, ⟨22, _⟩ => ⟨S256x37888, .bf16⟩
  | .local _ .vmem, ⟨0, _⟩ => ⟨S256x3584, .bf16⟩
  | .local _ .vmem, ⟨1, _⟩ => ⟨S1792x512, .i8⟩
  | .local _ .vmem, ⟨2, _⟩ => ⟨S1792x512, .i8⟩
  | .local _ .vmem, ⟨3, _⟩ => ⟨S896x512, .i8⟩
  | .local _ .vmem, ⟨4, _⟩ => ⟨S896x512, .i8⟩
  | .local _ .vmem, ⟨5, _⟩ => ⟨S14x16x512, .i8⟩
  | .local _ .vmem, ⟨6, _⟩ => ⟨S14x16x512, .i8⟩
  | .local _ .vmem, ⟨7, _⟩ => ⟨S14x512, .i16⟩
  | .local _ .vmem, ⟨8, _⟩ => ⟨S14x512, .i16⟩
  | .local _ .vmem, ⟨9, _⟩ => ⟨S1792x512, .i8⟩
  | .local _ .vmem, ⟨10, _⟩ => ⟨S1792x512, .i8⟩
  | .local _ .vmem, ⟨11, _⟩ => ⟨S896x512, .i8⟩
  | .local _ .vmem, ⟨12, _⟩ => ⟨S896x512, .i8⟩
  | .local _ .vmem, ⟨13, _⟩ => ⟨S14x16x512, .i8⟩
  | .local _ .vmem, ⟨14, _⟩ => ⟨S14x16x512, .i8⟩
  | .local _ .vmem, ⟨15, _⟩ => ⟨S14x512, .i16⟩
  | .local _ .vmem, ⟨16, _⟩ => ⟨S14x512, .i16⟩
  | .local _ .vmem, ⟨17, _⟩ => ⟨S256x512, .bf16⟩
  | .local _ .vmem, ⟨18, _⟩ => ⟨S256x512, .bf16⟩
  | .local _ .vmem, ⟨19, _⟩ => ⟨S224x2x512, .bf16⟩
  | .local _ .vmem, ⟨20, _⟩ => ⟨S224x2x512, .bf16⟩
  | _, _ => ⟨S256x1x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![74], ![false]⟩

@[reducible] def k0_t1_loop : Scf.Loop 32 :=
  let c0_i32_642 : BitVec 32 := 0#32
  let c14_i32 : BitVec 32 := 14#32
  let v1401 : BitVec 32 := Scalar.addi c0_i32_642 c14_i32
  let c1_i32 : BitVec 32 := 1#32
  ⟨c0_i32_642, v1401, c1_i32⟩
def k0_off1 (k0_t1 : Fin k0_t1_loop.trips) : Fin 2 → Nat :=
  let c0_653 : Index := 0#32
  let c0_i32_642 : BitVec 32 := 0#32
  let c1_i32 : BitVec 32 := 1#32
  let arg13 : BitVec 32 := Scf.iv c0_i32_642 c1_i32 k0_t1
  let c256_i32 : BitVec 32 := 256#32
  let v1416 : BitVec 32 := Scalar.muli arg13 c256_i32
  let v1417 : Index := Scalar.indexCast v1416
  ![0, v1417.toNat]
def k0_off2 (k0_t1 : Fin k0_t1_loop.trips) (c0_i32_654 : BitVec 32) : Fin 2 → Nat :=
  let c0_i32_642 : BitVec 32 := 0#32
  let c1_i32 : BitVec 32 := 1#32
  let arg13 : BitVec 32 := Scf.iv c0_i32_642 c1_i32 k0_t1
  let c128_i32 : BitVec 32 := 128#32
  let v1420 : BitVec 32 := Scalar.muli arg13 c128_i32
  let v1421 : BitVec 32 := Scalar.addi v1420 c0_i32_654
  let v1424 : Index := Scalar.indexCast v1421
  let c0_656 : Index := 0#32
  ![v1424.toNat, 0]
def k0_off3 (k0_t1 : Fin k0_t1_loop.trips) (c0_i32_654 : BitVec 32) : Fin 2 → Nat :=
  let c0_i32_642 : BitVec 32 := 0#32
  let c1_i32 : BitVec 32 := 1#32
  let arg13 : BitVec 32 := Scf.iv c0_i32_642 c1_i32 k0_t1
  let c128_i32 : BitVec 32 := 128#32
  let v1420 : BitVec 32 := Scalar.muli arg13 c128_i32
  let v1421 : BitVec 32 := Scalar.addi v1420 c0_i32_654
  let c32_i32 : BitVec 32 := 32#32
  let v1428 : BitVec 32 := Scalar.addi v1421 c32_i32
  let v1429 : Index := Scalar.indexCast v1428
  let c0_657 : Index := 0#32
  ![v1429.toNat, 0]
def k0_off4 (k0_t1 : Fin k0_t1_loop.trips) (c0_i32_655 : BitVec 32) : Fin 2 → Nat :=
  let c0_i32_642 : BitVec 32 := 0#32
  let c1_i32 : BitVec 32 := 1#32
  let arg13 : BitVec 32 := Scf.iv c0_i32_642 c1_i32 k0_t1
  let c64_i32 : BitVec 32 := 64#32
  let v1422 : BitVec 32 := Scalar.muli arg13 c64_i32
  let v1423 : BitVec 32 := Scalar.addi v1422 c0_i32_655
  let v1433 : Index := Scalar.indexCast v1423
  let c0_658 : Index := 0#32
  ![v1433.toNat, 0]
def k0_off5 (k0_t1 : Fin k0_t1_loop.trips) (c0_i32_670 : BitVec 32) (c0_i32_671 : BitVec 32) (c0_i32_672 : BitVec 32) : Fin 3 → Nat :=
  let c0_i32_642 : BitVec 32 := 0#32
  let c1_i32 : BitVec 32 := 1#32
  let arg13 : BitVec 32 := Scf.iv c0_i32_642 c1_i32 k0_t1
  let c16_i32_669 : BitVec 32 := 16#32
  let v1475 : BitVec 32 := Scalar.muli arg13 c16_i32_669
  let v1476 : BitVec 32 := Scalar.addi v1475 c0_i32_670
  let v1477 : BitVec 32 := Scalar.addi v1476 c0_i32_671
  let v1478 : BitVec 32 := Scalar.addi v1477 c0_i32_672
  let v1479 : Index := Scalar.indexCast v1478
  let c0_673 : Index := 0#32
  ![v1479.toNat, 0, 0]
def k0_off6 (k0_t1 : Fin k0_t1_loop.trips) (c0_i32_773 : BitVec 32) : Fin 2 → Nat :=
  let c0_i32_642 : BitVec 32 := 0#32
  let c1_i32 : BitVec 32 := 1#32
  let arg13 : BitVec 32 := Scf.iv c0_i32_642 c1_i32 k0_t1
  let c128_i32_772 : BitVec 32 := 128#32
  let v1705 : BitVec 32 := Scalar.muli arg13 c128_i32_772
  let v1706 : BitVec 32 := Scalar.addi v1705 c0_i32_773
  let v1709 : Index := Scalar.indexCast v1706
  let c128_776 : Index := 128#32
  ![v1709.toNat, 128]
def k0_off7 (k0_t1 : Fin k0_t1_loop.trips) (c0_i32_773 : BitVec 32) : Fin 2 → Nat :=
  let c0_i32_642 : BitVec 32 := 0#32
  let c1_i32 : BitVec 32 := 1#32
  let arg13 : BitVec 32 := Scf.iv c0_i32_642 c1_i32 k0_t1
  let c128_i32_772 : BitVec 32 := 128#32
  let v1705 : BitVec 32 := Scalar.muli arg13 c128_i32_772
  let v1706 : BitVec 32 := Scalar.addi v1705 c0_i32_773
  let c32_i32_777 : BitVec 32 := 32#32
  let v1713 : BitVec 32 := Scalar.addi v1706 c32_i32_777
  let v1714 : Index := Scalar.indexCast v1713
  let c128_778 : Index := 128#32
  ![v1714.toNat, 128]
def k0_off8 (k0_t1 : Fin k0_t1_loop.trips) (c0_i32_775 : BitVec 32) : Fin 2 → Nat :=
  let c0_i32_642 : BitVec 32 := 0#32
  let c1_i32 : BitVec 32 := 1#32
  let arg13 : BitVec 32 := Scf.iv c0_i32_642 c1_i32 k0_t1
  let c64_i32_774 : BitVec 32 := 64#32
  let v1707 : BitVec 32 := Scalar.muli arg13 c64_i32_774
  let v1708 : BitVec 32 := Scalar.addi v1707 c0_i32_775
  let v1718 : Index := Scalar.indexCast v1708
  let c128_779 : Index := 128#32
  ![v1718.toNat, 128]
def k0_off9 (k0_t1 : Fin k0_t1_loop.trips) (c0_i32_797 : BitVec 32) (c0_i32_798 : BitVec 32) (c0_i32_799 : BitVec 32) : Fin 3 → Nat :=
  let c0_i32_642 : BitVec 32 := 0#32
  let c1_i32 : BitVec 32 := 1#32
  let arg13 : BitVec 32 := Scf.iv c0_i32_642 c1_i32 k0_t1
  let c16_i32_796 : BitVec 32 := 16#32
  let v1760 : BitVec 32 := Scalar.muli arg13 c16_i32_796
  let v1761 : BitVec 32 := Scalar.addi v1760 c0_i32_797
  let v1762 : BitVec 32 := Scalar.addi v1761 c0_i32_798
  let v1763 : BitVec 32 := Scalar.addi v1762 c0_i32_799
  let v1764 : Index := Scalar.indexCast v1763
  let c128_800 : Index := 128#32
  ![v1764.toNat, 0, 128]
@[reducible] def k0_t2_loop : Scf.Loop 32 :=
  let c0_i32_647 : BitVec 32 := 0#32
  let c14_i32_648 : BitVec 32 := 14#32
  let v1409 : BitVec 32 := Scalar.addi c0_i32_647 c14_i32_648
  let c1_i32_649 : BitVec 32 := 1#32
  ⟨c0_i32_647, v1409, c1_i32_649⟩
def k0_off10 (k0_t2 : Fin k0_t2_loop.trips) : Fin 2 → Nat :=
  let c0_653 : Index := 0#32
  let c0_i32_647 : BitVec 32 := 0#32
  let c1_i32_649 : BitVec 32 := 1#32
  let arg13 : BitVec 32 := Scf.iv c0_i32_647 c1_i32_649 k0_t2
  let c256_i32 : BitVec 32 := 256#32
  let v1416 : BitVec 32 := Scalar.muli arg13 c256_i32
  let v1417 : Index := Scalar.indexCast v1416
  ![0, v1417.toNat]
def k0_off11 (k0_t2 : Fin k0_t2_loop.trips) (c0_i32_654 : BitVec 32) : Fin 2 → Nat :=
  let c0_i32_647 : BitVec 32 := 0#32
  let c1_i32_649 : BitVec 32 := 1#32
  let arg13 : BitVec 32 := Scf.iv c0_i32_647 c1_i32_649 k0_t2
  let c128_i32 : BitVec 32 := 128#32
  let v1420 : BitVec 32 := Scalar.muli arg13 c128_i32
  let v1421 : BitVec 32 := Scalar.addi v1420 c0_i32_654
  let v1424 : Index := Scalar.indexCast v1421
  let c256_656 : Index := 256#32
  ![v1424.toNat, 256]
def k0_off12 (k0_t2 : Fin k0_t2_loop.trips) (c0_i32_654 : BitVec 32) : Fin 2 → Nat :=
  let c0_i32_647 : BitVec 32 := 0#32
  let c1_i32_649 : BitVec 32 := 1#32
  let arg13 : BitVec 32 := Scf.iv c0_i32_647 c1_i32_649 k0_t2
  let c128_i32 : BitVec 32 := 128#32
  let v1420 : BitVec 32 := Scalar.muli arg13 c128_i32
  let v1421 : BitVec 32 := Scalar.addi v1420 c0_i32_654
  let c32_i32 : BitVec 32 := 32#32
  let v1428 : BitVec 32 := Scalar.addi v1421 c32_i32
  let v1429 : Index := Scalar.indexCast v1428
  let c256_657 : Index := 256#32
  ![v1429.toNat, 256]
def k0_off13 (k0_t2 : Fin k0_t2_loop.trips) (c0_i32_655 : BitVec 32) : Fin 2 → Nat :=
  let c0_i32_647 : BitVec 32 := 0#32
  let c1_i32_649 : BitVec 32 := 1#32
  let arg13 : BitVec 32 := Scf.iv c0_i32_647 c1_i32_649 k0_t2
  let c64_i32 : BitVec 32 := 64#32
  let v1422 : BitVec 32 := Scalar.muli arg13 c64_i32
  let v1423 : BitVec 32 := Scalar.addi v1422 c0_i32_655
  let v1433 : Index := Scalar.indexCast v1423
  let c256_658 : Index := 256#32
  ![v1433.toNat, 256]
def k0_off14 (k0_t2 : Fin k0_t2_loop.trips) (c0_i32_670 : BitVec 32) (c0_i32_671 : BitVec 32) (c0_i32_672 : BitVec 32) : Fin 3 → Nat :=
  let c0_i32_647 : BitVec 32 := 0#32
  let c1_i32_649 : BitVec 32 := 1#32
  let arg13 : BitVec 32 := Scf.iv c0_i32_647 c1_i32_649 k0_t2
  let c16_i32_669 : BitVec 32 := 16#32
  let v1475 : BitVec 32 := Scalar.muli arg13 c16_i32_669
  let v1476 : BitVec 32 := Scalar.addi v1475 c0_i32_670
  let v1477 : BitVec 32 := Scalar.addi v1476 c0_i32_671
  let v1478 : BitVec 32 := Scalar.addi v1477 c0_i32_672
  let v1479 : Index := Scalar.indexCast v1478
  let c256_673 : Index := 256#32
  ![v1479.toNat, 0, 256]
def k0_off15 (k0_t2 : Fin k0_t2_loop.trips) (c0_i32_773 : BitVec 32) : Fin 2 → Nat :=
  let c0_i32_647 : BitVec 32 := 0#32
  let c1_i32_649 : BitVec 32 := 1#32
  let arg13 : BitVec 32 := Scf.iv c0_i32_647 c1_i32_649 k0_t2
  let c128_i32_772 : BitVec 32 := 128#32
  let v1705 : BitVec 32 := Scalar.muli arg13 c128_i32_772
  let v1706 : BitVec 32 := Scalar.addi v1705 c0_i32_773
  let v1709 : Index := Scalar.indexCast v1706
  let c384_776 : Index := 384#32
  ![v1709.toNat, 384]
def k0_off16 (k0_t2 : Fin k0_t2_loop.trips) (c0_i32_773 : BitVec 32) : Fin 2 → Nat :=
  let c0_i32_647 : BitVec 32 := 0#32
  let c1_i32_649 : BitVec 32 := 1#32
  let arg13 : BitVec 32 := Scf.iv c0_i32_647 c1_i32_649 k0_t2
  let c128_i32_772 : BitVec 32 := 128#32
  let v1705 : BitVec 32 := Scalar.muli arg13 c128_i32_772
  let v1706 : BitVec 32 := Scalar.addi v1705 c0_i32_773
  let c32_i32_777 : BitVec 32 := 32#32
  let v1713 : BitVec 32 := Scalar.addi v1706 c32_i32_777
  let v1714 : Index := Scalar.indexCast v1713
  let c384_778 : Index := 384#32
  ![v1714.toNat, 384]
def k0_off17 (k0_t2 : Fin k0_t2_loop.trips) (c0_i32_775 : BitVec 32) : Fin 2 → Nat :=
  let c0_i32_647 : BitVec 32 := 0#32
  let c1_i32_649 : BitVec 32 := 1#32
  let arg13 : BitVec 32 := Scf.iv c0_i32_647 c1_i32_649 k0_t2
  let c64_i32_774 : BitVec 32 := 64#32
  let v1707 : BitVec 32 := Scalar.muli arg13 c64_i32_774
  let v1708 : BitVec 32 := Scalar.addi v1707 c0_i32_775
  let v1718 : Index := Scalar.indexCast v1708
  let c384_779 : Index := 384#32
  ![v1718.toNat, 384]
def k0_off18 (k0_t2 : Fin k0_t2_loop.trips) (c0_i32_797 : BitVec 32) (c0_i32_798 : BitVec 32) (c0_i32_799 : BitVec 32) : Fin 3 → Nat :=
  let c0_i32_647 : BitVec 32 := 0#32
  let c1_i32_649 : BitVec 32 := 1#32
  let arg13 : BitVec 32 := Scf.iv c0_i32_647 c1_i32_649 k0_t2
  let c16_i32_796 : BitVec 32 := 16#32
  let v1760 : BitVec 32 := Scalar.muli arg13 c16_i32_796
  let v1761 : BitVec 32 := Scalar.addi v1760 c0_i32_797
  let v1762 : BitVec 32 := Scalar.addi v1761 c0_i32_798
  let v1763 : BitVec 32 := Scalar.addi v1762 c0_i32_799
  let v1764 : Index := Scalar.indexCast v1763
  let c384_800 : Index := 384#32
  ![v1764.toNat, 0, 384]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1792x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S896x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S14x16x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S14x512 .i16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1792x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S896x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S14x16x512 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S14x512 .i16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S256x1x3584 : Shape := ⟨3, ![256, 1, 3584]⟩
abbrev S37888x14x2x64 : Shape := ⟨4, ![37888, 14, 2, 64]⟩
abbrev S37888x14x2x32 : Shape := ⟨4, ![37888, 14, 2, 32]⟩
abbrev S37888x14x16 : Shape := ⟨3, ![37888, 14, 16]⟩
abbrev S37888x14 : Shape := ⟨2, ![37888, 14]⟩
abbrev S256x37888 : Shape := ⟨2, ![256, 37888]⟩
abbrev S256x3584 : Shape := ⟨2, ![256, 3584]⟩
abbrev S37888x14x1 : Shape := ⟨3, ![37888, 14, 1]⟩
abbrev S37888x14x2x4x2 : Shape := ⟨5, ![37888, 14, 2, 4, 2]⟩
abbrev S37888x14x2x2x16 : Shape := ⟨5, ![37888, 14, 2, 2, 16]⟩
abbrev S37888x14x2x1x2 : Shape := ⟨5, ![37888, 14, 2, 1, 2]⟩
abbrev S37888x14x2x2 : Shape := ⟨4, ![37888, 14, 2, 2]⟩
abbrev S37888x14x2x2x1 : Shape := ⟨5, ![37888, 14, 2, 2, 1]⟩
abbrev S37888x14x2x1x32 : Shape := ⟨5, ![37888, 14, 2, 1, 32]⟩
abbrev S37888x14x2x4x32 : Shape := ⟨5, ![37888, 14, 2, 4, 32]⟩
abbrev S37888x3584 : Shape := ⟨2, ![37888, 3584]⟩

abbrev nBuf : Space → Nat
  | .hbm => 10
  | .vmem => 10
  | .smem => 0
  | _ => 0

abbrev bufTy : (tb : Table) → Fin (tcTables nBuf tb) → BufTy
  | .hbm, ⟨0, _⟩ => ⟨S256x1x3584, .bf16⟩
  | .hbm, ⟨1, _⟩ => ⟨S37888x14x2x64, .i8⟩
  | .hbm, ⟨2, _⟩ => ⟨S37888x14x2x32, .i8⟩
  | .hbm, ⟨3, _⟩ => ⟨S37888x14x16, .i8⟩
  | .hbm, ⟨4, _⟩ => ⟨S37888x14, .i16⟩
  | .hbm, ⟨5, _⟩ => ⟨S37888x14x2x64, .i8⟩
  | .hbm, ⟨6, _⟩ => ⟨S37888x14x2x32, .i8⟩
  | .hbm, ⟨7, _⟩ => ⟨S37888x14x16, .i8⟩
  | .hbm, ⟨8, _⟩ => ⟨S37888x14, .i16⟩
  | .hbm, ⟨9, _⟩ => ⟨S256x37888, .bf16⟩
  | .local _ .vmem, ⟨0, _⟩ => ⟨S256x1x3584, .bf16⟩
  | .local _ .vmem, ⟨1, _⟩ => ⟨S37888x14x2x64, .i8⟩
  | .local _ .vmem, ⟨2, _⟩ => ⟨S37888x14x2x32, .i8⟩
  | .local _ .vmem, ⟨3, _⟩ => ⟨S37888x14x16, .i8⟩
  | .local _ .vmem, ⟨4, _⟩ => ⟨S37888x14, .i16⟩
  | .local _ .vmem, ⟨5, _⟩ => ⟨S37888x14x2x64, .i8⟩
  | .local _ .vmem, ⟨6, _⟩ => ⟨S37888x14x2x32, .i8⟩
  | .local _ .vmem, ⟨7, _⟩ => ⟨S37888x14x16, .i8⟩
  | .local _ .vmem, ⟨8, _⟩ => ⟨S37888x14, .i16⟩
  | .local _ .vmem, ⟨9, _⟩ => ⟨S256x37888, .bf16⟩
  | _, _ => ⟨S256x1x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S256x1x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S37888x14x2x64 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S37888x14x2x32 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S37888x14x16 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S37888x14 .i16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S37888x14x2x64 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S37888x14x2x32 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S37888x14x16 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S37888x14 .i16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x37888 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Weights.lean ====
/-  The dequantised weight matrix one trip of the kernel's loop builds, written once for all its eight 32-row pieces:
    packed rows are read as 32-bit words, four fields of codes are cut out of them, and each field is multiplied by the
    scale rows of its two 16-row sub-blocks. `trip…_eq` say that each trip adds one such product to what it carries. -/
module

public import proofs.«01_k».proof.Proof.Gen.KernelIdeal.Loops

@[expose] public section

set_option maxRecDepth 16384
set_option maxHeartbeats 2000000

noncomputable section

namespace Cert.Weights

open Cert.KernelIdeal Cert.KernelIdeal.Gen Idealize.ShloMosaic Idealize.ShloMosaic.TcCoe Idealize.SL.Sem

variable {F : FTy → Type} [FloatOps F]

/-- Thirty-two rows of bytes as eight rows of 32-bit words, four rows to a word. -/
def word (x : IVec S32x128 8) : IVec S8x128 32 :=
  bitcast S8x128 32 (shapeCast S32x128 x shapeCasts_S32x128_S32x128) bitcasts_S32x128_w8_S8x128_w32

/-- The words of the high code bits, the top bit of each two-bit code flipped. -/
def qword (x : IVec S32x128 8) : IVec S8x128 32 := xori (word x) (broadcast S8x128 2863311530#32)

/-- The words of field `f`: each byte holds four times a signed six-bit code. -/
def fieldWord (a b q : IVec S8x128 32) : Fin 4 → IVec S8x128 32
  | 0 => ori (andi (shli a (broadcast S8x128 2#32)) (broadcast S8x128 1010580540#32))
      (andi (shli q (broadcast S8x128 6#32)) (broadcast S8x128 3233857728#32))
  | 1 => ori (andi (shli b (broadcast S8x128 2#32)) (broadcast S8x128 1010580540#32))
      (andi (shli q (broadcast S8x128 4#32)) (broadcast S8x128 3233857728#32))
  | 2 => ori (andi (shrui a (broadcast S8x128 2#32)) (broadcast S8x128 1010580540#32))
      (andi (shli q (broadcast S8x128 2#32)) (broadcast S8x128 3233857728#32))
  | 3 => ori (andi (shrui b (broadcast S8x128 2#32)) (broadcast S8x128 1010580540#32))
      (andi q (broadcast S8x128 3233857728#32))

/-- The bytes of a word array as numbers, one row each. -/
def codes (w : IVec S8x128 32) : FVec F S32x128 .bf16 :=
  sitofp .bf16 (bitcast S32x128 8 w bitcasts_S8x128_w32_S32x128_w8)

/-- A row of scale pairs spread over sixteen rows. -/
def scaleRows (e : Vec F S1x2x128 .bf16) : FVec F S16x128 .bf16 :=
  let lo : FVec F S1x128 .bf16 := shapeCast S1x128 (rowsOfParity 0 S1x1x128 e bitcasts_S1x2x128_w16_S1x1x128_w32) shapeCasts_S1x1x128_S1x128
  let hi : FVec F S1x128 .bf16 := shapeCast S1x128 (rowsOfParity 1 S1x1x128 e bitcasts_S1x2x128_w16_S1x1x128_w32) shapeCasts_S1x1x128_S1x128
  interleaveRows S16x128
    (concatenate S8x128 0 [⟨S1x128, lo⟩, ⟨S1x128, lo⟩, ⟨S1x128, lo⟩, ⟨S1x128, lo⟩, ⟨S1x128, lo⟩, ⟨S1x128, lo⟩, ⟨S1x128, lo⟩, ⟨S1x128, lo⟩]
      concatenates_S1x128_S1x128_S1x128_S1x128_S1x128_S1x128_S1x128_S1x128_S8x128_d0)
    (concatenate S8x128 0 [⟨S1x128, hi⟩, ⟨S1x128, hi⟩, ⟨S1x128, hi⟩, ⟨S1x128, hi⟩, ⟨S1x128, hi⟩, ⟨S1x128, hi⟩, ⟨S1x128, hi⟩, ⟨S1x128, hi⟩]
      concatenates_S1x128_S1x128_S1x128_S1x128_S1x128_S1x128_S1x128_S1x128_S8x128_d0)
    bitcasts_S16x128_w16_S8x128_w32

/-- The first sixteen rows of a field times their scale. -/
def piece0 (w : IVec S8x128 32) (e : Vec F S1x2x128 .bf16) : FVec F S16x128 .bf16 :=
  mulf (extractStridedSlice S16x128 ![0, 0] (codes w) slices_S32x128_o0_0_S16x128) (scaleRows e)

/-- The last sixteen rows of a field times their scale. -/
def piece1 (w : IVec S8x128 32) (e : Vec F S1x2x128 .bf16) : FVec F S16x128 .bf16 :=
  mulf (extractStridedSlice S16x128 ![16, 0] (codes w) slices_S32x128_o16_0_S16x128) (scaleRows e)

/-- Half a super-block of weights: four fields of two sub-blocks each. -/
def half (a b q : IVec S8x128 32) (e : Fin 8 → Vec F S1x2x128 .bf16) : FVec F S128x128 .bf16 :=
  concatenate S128x128 0
    [⟨S16x128, piece0 (fieldWord a b q 0) (e 0)⟩, ⟨S16x128, piece1 (fieldWord a b q 0) (e 1)⟩,
     ⟨S16x128, piece0 (fieldWord a b q 1) (e 2)⟩, ⟨S16x128, piece1 (fieldWord a b q 1) (e 3)⟩,
     ⟨S16x128, piece0 (fieldWord a b q 2) (e 4)⟩, ⟨S16x128, piece1 (fieldWord a b q 2) (e 5)⟩,
     ⟨S16x128, piece0 (fieldWord a b q 3) (e 6)⟩, ⟨S16x128, piece1 (fieldWord a b q 3) (e 7)⟩]
    concatenates_S16x128_S16x128_S16x128_S16x128_S16x128_S16x128_S16x128_S16x128_S128x128_d0

/-- A super-block of weights of 256 rows of the output: two chunks of 128, each of two halves. -/
def matrix (a b q : Fin 2 → Fin 2 → IVec S32x128 8) (e : Fin 2 → Fin 2 → Fin 8 → Vec F S1x2x128 .bf16) : FVec F S256x256 .bf16 :=
  concatenate S256x256 1
    [⟨S256x128, concatenate S256x128 0
        [⟨S128x128, half (word (a 0 0)) (word (b 0 0)) (qword (q 0 0)) (e 0 0)⟩,
         ⟨S128x128, half (word (a 0 1)) (word (b 0 1)) (qword (q 0 1)) (e 0 1)⟩] concatenates_S128x128_S128x128_S256x128_d0⟩,
     ⟨S256x128, concatenate S256x128 0
        [⟨S128x128, half (word (a 1 0)) (word (b 1 0)) (qword (q 1 0)) (e 1 0)⟩,
         ⟨S128x128, half (word (a 1 1)) (word (b 1 1)) (qword (q 1 1)) (e 1 1)⟩] concatenates_S128x128_S128x128_S256x128_d0⟩]
    concatenates_S256x128_S256x128_S256x256_d1

/-- One product added to a carried sum. -/
def step (acc : FVec F S256x256 .f32) (x w : FVec F S256x256 .bf16) : FVec F S256x256 .f32 :=
  addf acc (matmul dot_S256x256_S256x256_S256x256_1_0_0_1_n_n none x w (constant S256x256 .f32 0x00000000#32))

/-! ## The loads of one trip -/

/-- Loop 1, trip `k`: the packed low bits, the first thirty-two rows of half `h` of chunk `c`. -/
def rowsA1 (arg : Memref sig .tc .vmem S1792x512 .i8) (X : BufTy.Contents (Elt F) arg.view.ty) (k : Fin k0_t1_loop.trips) :
    Fin 2 → Fin 2 → IVec S32x128 8 :=
  ![fun h => View.readAt (Elt F) arg.view (Rect.unit (s := S1792x512) (k0_off2 k (BitVec.ofNat 32 (64 * h.val))) S32x128.size (k0_off2_inb k h)).toLoadRect X,
    fun h => View.readAt (Elt F) arg.view (Rect.unit (s := S1792x512) (k0_off6 k (BitVec.ofNat 32 (64 * h.val))) S32x128.size (k0_off6_inb k h)).toLoadRect X]

/-- … the second thirty-two rows. -/
def rowsB1 (arg : Memref sig .tc .vmem S1792x512 .i8) (X : BufTy.Contents (Elt F) arg.view.ty) (k : Fin k0_t1_loop.trips) :
    Fin 2 → Fin 2 → IVec S32x128 8 :=
  ![fun h => View.readAt (Elt F) arg.view (Rect.unit (s := S1792x512) (k0_off3 k (BitVec.ofNat 32 (64 * h.val))) S32x128.size (k0_off3_inb k h)).toLoadRect X,
    fun h => View.readAt (Elt F) arg.view (Rect.unit (s := S1792x512) (k0_off7 k (BitVec.ofNat 32 (64 * h.val))) S32x128.size (k0_off7_inb k h)).toLoadRect X]

/-- … the packed high bits. -/
def rowsQ1 (arg : Memref sig .tc .vmem S896x512 .i8) (X : BufTy.Contents (Elt F) arg.view.ty) (k : Fin k0_t1_loop.trips) :
    Fin 2 → Fin 2 → IVec S32x128 8 :=
  ![fun h => View.readAt (Elt F) arg.view (Rect.unit (s := S896x512) (k0_off4 k (BitVec.ofNat 32 (32 * h.val))) S32x128.size (k0_off4_inb k h)).toLoadRect X,
    fun h => View.readAt (Elt F) arg.view (Rect.unit (s := S896x512) (k0_off8 k (BitVec.ofNat 32 (32 * h.val))) S32x128.size (k0_off8_inb k h)).toLoadRect X]

/-- … the pair of scale rows of sub-block `p` of the half. -/
def rowsE1 (arg : Memref sig .tc .vmem S224x2x512 .bf16) (X : BufTy.Contents (Elt F) arg.view.ty) (k : Fin k0_t1_loop.trips) :
    Fin 2 → Fin 2 → Fin 8 → Vec F S1x2x128 .bf16 :=
  ![fun h p => View.readAt (Elt F) arg.view (Rect.unit (s := S224x2x512) (k0_off5 k (BitVec.ofNat 32 (8 * h.val)) (BitVec.ofNat 32 (2 * (p.val / 2))) (BitVec.ofNat 32 (p.val % 2))) S1x2x128.size (k0_off5_inb k h ⟨p.val / 2, by omega⟩ ⟨p.val % 2, by omega⟩)).toLoadRect X,
    fun h p => View.readAt (Elt F) arg.view (Rect.unit (s := S224x2x512) (k0_off9 k (BitVec.ofNat 32 (8 * h.val)) (BitVec.ofNat 32 (2 * (p.val / 2))) (BitVec.ofNat 32 (p.val % 2))) S1x2x128.size (k0_off9_inb k h ⟨p.val / 2, by omega⟩ ⟨p.val % 2, by omega⟩)).toLoadRect X]

/-- … the block of activations. -/
def acts1 (arg : Memref sig .tc .vmem S256x3584 .bf16) (X : BufTy.Contents (Elt F) arg.view.ty) (k : Fin k0_t1_loop.trips) :
    FVec F S256x256 .bf16 :=
  shapeCast S256x256 (View.readAt (Elt F) arg.view (Rect.unit (s := S256x3584) (k0_off1 k) S256x256.size (k0_off1_inb k)).toLoadRect X : FVec F S256x256 .bf16)
    shapeCasts_S256x256_S256x256

/-- Loop 2, trip `k`: the packed low bits, the first thirty-two rows of half `h` of chunk `c`. -/
def rowsA2 (arg : Memref sig .tc .vmem S1792x512 .i8) (X : BufTy.Contents (Elt F) arg.view.ty) (k : Fin k0_t2_loop.trips) :
    Fin 2 → Fin 2 → IVec S32x128 8 :=
  ![fun h => View.readAt (Elt F) arg.view (Rect.unit (s := S1792x512) (k0_off11 k (BitVec.ofNat 32 (64 * h.val))) S32x128.size (k0_off11_inb k h)).toLoadRect X,
    fun h => View.readAt (Elt F) arg.view (Rect.unit (s := S1792x512) (k0_off15 k (BitVec.ofNat 32 (64 * h.val))) S32x128.size (k0_off15_inb k h)).toLoadRect X]

/-- … the second thirty-two rows. -/
def rowsB2 (arg : Memref sig .tc .vmem S1792x512 .i8) (X : BufTy.Contents (Elt F) arg.view.ty) (k : Fin k0_t2_loop.trips) :
    Fin 2 → Fin 2 → IVec S32x128 8 :=
  ![fun h => View.readAt (Elt F) arg.view (Rect.unit (s := S1792x512) (k0_off12 k (BitVec.ofNat 32 (64 * h.val))) S32x128.size (k0_off12_inb k h)).toLoadRect X,
    fun h => View.readAt (Elt F) arg.view (Rect.unit (s := S1792x512) (k0_off16 k (BitVec.ofNat 32 (64 * h.val))) S32x128.size (k0_off16_inb k h)).toLoadRect X]

/-- … the packed high bits. -/
def rowsQ2 (arg : Memref sig .tc .vmem S896x512 .i8) (X : BufTy.Contents (Elt F) arg.view.ty) (k : Fin k0_t2_loop.trips) :
    Fin 2 → Fin 2 → IVec S32x128 8 :=
  ![fun h => View.readAt (Elt F) arg.view (Rect.unit (s := S896x512) (k0_off13 k (BitVec.ofNat 32 (32 * h.val))) S32x128.size (k0_off13_inb k h)).toLoadRect X,
    fun h => View.readAt (Elt F) arg.view (Rect.unit (s := S896x512) (k0_off17 k (BitVec.ofNat 32 (32 * h.val))) S32x128.size (k0_off17_inb k h)).toLoadRect X]

/-- … the pair of scale rows of sub-block `p` of the half. -/
def rowsE2 (arg : Memref sig .tc .vmem S224x2x512 .bf16) (X : BufTy.Contents (Elt F) arg.view.ty) (k : Fin k0_t2_loop.trips) :
    Fin 2 → Fin 2 → Fin 8 → Vec F S1x2x128 .bf16 :=
  ![fun h p => View.readAt (Elt F) arg.view (Rect.unit (s := S224x2x512) (k0_off14 k (BitVec.ofNat 32 (8 * h.val)) (BitVec.ofNat 32 (2 * (p.val / 2))) (BitVec.ofNat 32 (p.val % 2))) S1x2x128.size (k0_off14_inb k h ⟨p.val / 2, by omega⟩ ⟨p.val % 2, by omega⟩)).toLoadRect X,
    fun h p => View.readAt (Elt F) arg.view (Rect.unit (s := S224x2x512) (k0_off18 k (BitVec.ofNat 32 (8 * h.val)) (BitVec.ofNat 32 (2 * (p.val / 2))) (BitVec.ofNat 32 (p.val % 2))) S1x2x128.size (k0_off18_inb k h ⟨p.val / 2, by omega⟩ ⟨p.val % 2, by omega⟩)).toLoadRect X]

/-- … the block of activations. -/
def acts2 (arg : Memref sig .tc .vmem S256x3584 .bf16) (X : BufTy.Contents (Elt F) arg.view.ty) (k : Fin k0_t2_loop.trips) :
    FVec F S256x256 .bf16 :=
  shapeCast S256x256 (View.readAt (Elt F) arg.view (Rect.unit (s := S256x3584) (k0_off10 k) S256x256.size (k0_off10_inb k)).toLoadRect X : FVec F S256x256 .bf16)
    shapeCasts_S256x256_S256x256

/-! ## One trip -/

variable (𝒱 : Variants) (c : Dev nD) (bd : Option 𝒱.V) (i : grid0.Coords) (arg1 : Memref sig .tc .vmem S256x3584 .bf16) (harg1 : arg1.IsWhole) (arg2 : Memref sig .tc .vmem S1792x512 .i8) (harg2 : arg2.IsWhole) (arg3 : Memref sig .tc .vmem S896x512 .i8) (harg3 : arg3.IsWhole) (arg4 : Memref sig .tc .vmem S14x16x512 .i8) (harg4 : arg4.IsWhole) (arg5 : Memref sig .tc .vmem S14x512 .i16) (harg5 : arg5.IsWhole) (arg6 : Memref sig .tc .vmem S1792x512 .i8) (harg6 : arg6.IsWhole) (arg7 : Memref sig .tc .vmem S896x512 .i8) (harg7 : arg7.IsWhole) (arg8 : Memref sig .tc .vmem S14x16x512 .i8) (harg8 : arg8.IsWhole) (arg9 : Memref sig .tc .vmem S14x512 .i16) (harg9 : arg9.IsWhole) (arg10 : Memref sig .tc .vmem S256x512 .bf16) (harg10 : arg10.IsWhole) (arg11 : Memref sig .tc .vmem S224x2x512 .bf16) (harg11 : arg11.IsWhole) (arg12 : Memref sig .tc .vmem S224x2x512 .bf16) (harg12 : arg12.IsWhole) (X_arg1 : BufTy.Contents (Elt F) arg1.view.ty) (X_arg2 : BufTy.Contents (Elt F) arg2.view.ty) (X_arg3 : BufTy.Contents (Elt F) arg3.view.ty) (X_arg6 : BufTy.Contents (Elt F) arg6.view.ty) (X_arg7 : BufTy.Contents (Elt F) arg7.view.ty) (X_arg11 : BufTy.Contents (Elt F) arg11.view.ty) (X_arg12 : BufTy.Contents (Elt F) arg12.view.ty) (acc : FVec F S256x256 .f32 × FVec F S256x256 .f32)

/-- Trip `k` of loop 1 adds one product of a block of activations and a block of weights to each of the two sums it carries. -/
theorem trip1_eq (v1259 : FVec F S14x128 .f32) (k0_w110 : Vec F S16x2x128 .bf16) (k : Fin k0_t1_loop.trips) :
    tripR_k0_t1 (F := F) 𝒱 c bd i arg1 harg1 arg2 harg2 arg3 harg3 arg4 harg4 arg5 harg5 arg6 harg6 arg7 harg7 arg8 harg8 arg9 harg9 arg10 harg10 arg11 harg11 arg12 harg12 v1259 k0_w110 X_arg1 X_arg2 X_arg3 X_arg6 X_arg7 X_arg11 X_arg12 k acc
      = (step acc.1 (acts1 arg1 X_arg1 k) (matrix (rowsA1 arg2 X_arg2 k) (rowsB1 arg2 X_arg2 k) (rowsQ1 arg3 X_arg3 k) (rowsE1 arg11 X_arg11 k)),
         step acc.2 (acts1 arg1 X_arg1 k) (matrix (rowsA1 arg6 X_arg6 k) (rowsB1 arg6 X_arg6 k) (rowsQ1 arg7 X_arg7 k) (rowsE1 arg12 X_arg12 k))) := by
  unfold tripR_k0_t1 trip_k0_t1
  rfl

/-- Trip `k` of loop 2 adds one product of a block of activations and a block of weights to each of the two sums it carries. -/
theorem trip2_eq (k : Fin k0_t2_loop.trips) :
    tripR_k0_t2 (F := F) 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg6 X_arg7 X_arg11 X_arg12 k acc
      = (step acc.1 (acts2 arg1 X_arg1 k) (matrix (rowsA2 arg2 X_arg2 k) (rowsB2 arg2 X_arg2 k) (rowsQ2 arg3 X_arg3 k) (rowsE2 arg11 X_arg11 k)),
         step acc.2 (acts2 arg1 X_arg1 k) (matrix (rowsA2 arg6 X_arg6 k) (rowsB2 arg6 X_arg6 k) (rowsQ2 arg7 X_arg7 k) (rowsE2 arg12 X_arg12 k))) := by
  unfold tripR_k0_t2 trip_k0_t2
  rfl

end Cert.Weights
-- ==== Proof.Codes.lean ====
/-  The six-bit codes. A code is four low bits from one packed byte and two high bits from another. The kernel keeps four
    codes of a field in the four bytes of a word, each byte four times the code less thirty-two, as a signed byte; the
    reference builds the code itself in a word and subtracts thirty-two. -/
module

public import proofs.«01_k».proof.Proof.Weights
public import Idealize.ShloMosaic.Lib.Pointwise
public import Idealize.ShloMosaic.Lib.BitcastFour

@[expose] public section

set_option maxRecDepth 16384

noncomputable section

namespace Cert.Codes

open Cert.KernelIdeal Cert.KernelIdeal.Gen Idealize.ShloMosaic Idealize.ShloMosaic.TcCoe Idealize.SL.Sem Cert.Weights

/-- The low four bits of the code of field `f`, from the first (`a`) or second (`b`) packed byte. -/
def nib (a b : BitVec 8) : Fin 4 → BitVec 4
  | 0 => a.extractLsb' 0 4
  | 1 => b.extractLsb' 0 4
  | 2 => a.extractLsb' 4 4
  | 3 => b.extractLsb' 4 4

/-- The high two bits of the code of field `f`. -/
def pair (q : BitVec 8) : Fin 4 → BitVec 2
  | 0 => q.extractLsb' 0 2
  | 1 => q.extractLsb' 2 2
  | 2 => q.extractLsb' 4 2
  | 3 => q.extractLsb' 6 2

/-- The code of field `f`, less thirty-two. -/
def code (a b q : BitVec 8) (f : Fin 4) : Int := ((0#26 ++ pair q f ++ nib a b f : BitVec 32).toInt) - 32

/-- Four times the code, as a signed byte. -/
def codeByte (a b q : BitVec 8) (f : Fin 4) : BitVec 8 := (pair q f ^^^ 2#2) ++ nib a b f ++ 0#2

/-- The bits of the kernel's byte: two zeros, four low code bits, two high code bits of which the upper is flipped. -/
theorem codeByte_getLsbD (a b q : BitVec 8) (f : Fin 4) (i : Nat) :
    (codeByte a b q f).getLsbD i
      = if i < 2 then (0#2).getLsbD i else if i - 2 < 4 then (nib a b f).getLsbD (i - 2) else (pair q f ^^^ 2#2).getLsbD (i - 2 - 4) := by
  have h1 := BitVec.getLsbD_append (x := (pair q f ^^^ 2#2) ++ nib a b f) (y := 0#2) (i := i)
  have h2 := BitVec.getLsbD_append (x := pair q f ^^^ 2#2) (y := nib a b f) (i := i - 2)
  rw [h2] at h1
  simp only [← Bool.cond_decide] at h1 ⊢
  exact h1

/-- The kernel's byte as a signed number: four times the code less thirty-two. -/
theorem codeByte_toInt (a b q : BitVec 8) (f : Fin 4) : (codeByte a b q f).toInt = 4 * code a b q f := by
  have key : ∀ (p : BitVec 2) (n : BitVec 4),
      ((p ^^^ 2#2) ++ n ++ 0#2 : BitVec 8).toInt = 4 * ((0#26 ++ p ++ n : BitVec 32).toInt - 32) := by decide +kernel
  exact key _ _

/-- One word of a field. -/
def fieldW (a b q : BitVec 32) : Fin 4 → BitVec 32
  | 0 => (a <<< 2 &&& 1010580540#32) ||| ((q ^^^ 2863311530#32) <<< 6 &&& 3233857728#32)
  | 1 => (b <<< 2 &&& 1010580540#32) ||| ((q ^^^ 2863311530#32) <<< 4 &&& 3233857728#32)
  | 2 => (a >>> 2 &&& 1010580540#32) ||| ((q ^^^ 2863311530#32) <<< 2 &&& 3233857728#32)
  | 3 => (b >>> 2 &&& 1010580540#32) ||| ((q ^^^ 2863311530#32) &&& 3233857728#32)

/-- The word of field `f` at an index, from the three packed words there. -/
theorem fieldWord_apply (x y : IVec S8x128 32) (z : IVec S32x128 8) (f : Fin 4) (i : S8x128.Idx) :
    fieldWord x y (qword z) f i = fieldW (x i) (y i) (word z i) f := by
  match f with
  | 0 => rfl
  | 1 => rfl
  | 2 => rfl
  | 3 => rfl

set_option maxHeartbeats 8000000 in
/-- Byte `j` of a field's word is `codeByte` of byte `j` of the words it is cut from. -/
theorem fieldW_byte (A B Q : BitVec 32) (a b q : BitVec 8) (f : Fin 4) (j : Fin 4)
    (hA : ∀ i, i < 8 → A.getLsbD (8 * j.val + i) = a.getLsbD i) (hB : ∀ i, i < 8 → B.getLsbD (8 * j.val + i) = b.getLsbD i)
    (hQ : ∀ i, i < 8 → Q.getLsbD (8 * j.val + i) = q.getLsbD i) (i : Nat) (hi : i < 8) :
    (fieldW A B Q f).getLsbD (8 * j.val + i) = (codeByte a b q f).getLsbD i := by
  have a0 := hA 0 (by omega); have a1 := hA 1 (by omega); have a2 := hA 2 (by omega); have a3 := hA 3 (by omega)
  have a4 := hA 4 (by omega); have a5 := hA 5 (by omega); have a6 := hA 6 (by omega); have a7 := hA 7 (by omega)
  have b0 := hB 0 (by omega); have b1 := hB 1 (by omega); have b2 := hB 2 (by omega); have b3 := hB 3 (by omega)
  have b4 := hB 4 (by omega); have b5 := hB 5 (by omega); have b6 := hB 6 (by omega); have b7 := hB 7 (by omega)
  have q0 := hQ 0 (by omega); have q1 := hQ 1 (by omega); have q2 := hQ 2 (by omega); have q3 := hQ 3 (by omega)
  have q4 := hQ 4 (by omega); have q5 := hQ 5 (by omega); have q6 := hQ 6 (by omega); have q7 := hQ 7 (by omega)
  clear hA hB hQ
  rw [codeByte_getLsbD]
  fin_cases f <;> fin_cases j <;> interval_cases i <;>
    simp_all [fieldW, nib, pair]

/-- A bit of row `r` of packed bytes, in the word that holds the row: byte `r % 4` of word `r / 4`. -/
theorem word_getLsbD (x : IVec S32x128 8) (r : Fin 32) (l : Fin 128) (i : Nat) (hi : i < 8) :
    (word x (ValueIdx.ix2 ⟨r.val / 4, by omega⟩ l)).getLsbD (8 * (r.val % 4) + i) = (x (ValueIdx.ix2 r l)).getLsbD i := by
  unfold word
  rw [shapeCast_self]
  refine (bitcast_8_32_getLsbD_ix2 x bitcasts_S32x128_w8_S8x128_w32 ⟨r.val / 4, by omega⟩ l _ (by omega) r ?_).trans ?_
  · show r.val = 4 * (r.val / 4) + _
    omega
  · congr 1
    omega

/-- Byte `r % 4` of the word of rows `4 (r / 4) …` is the byte of row `r`. -/
theorem bytes_apply (w : IVec S8x128 32) (r : Fin 32) (l : Fin 128) (i : Nat) (hi : i < 8) :
    (bitcast S32x128 8 w bitcasts_S8x128_w32_S32x128_w8 (ValueIdx.ix2 r l)).getLsbD i
      = (w (ValueIdx.ix2 ⟨r.val / 4, by omega⟩ l)).getLsbD (8 * (r.val % 4) + i) := by
  have hrow : S32x128.row (ValueIdx.ix2 r l) = r.val := rfl
  rw [bitcast_getLsbD w bitcasts_S8x128_w32_S32x128_w8 (ValueIdx.ix2 r l) i hi (by decide)]
  have e1 : (S32x128.row (ValueIdx.ix2 r l) * 8 + i) % 32 = 8 * (r.val % 4) + i := by rw [hrow]; omega
  rw [e1]
  congr 2
  funext c
  match c with
  | ⟨0, _⟩ =>
    refine Fin.ext ((Shape.Bitcasts.srcIdx_row _ _ _ _ ⟨0, Nat.zero_lt_two⟩ rfl).trans ?_)
    rw [hrow]
    show _ = r.val / 4
    omega
  | ⟨1, _⟩ => exact Fin.ext (Shape.Bitcasts.srcIdx_other _ _ _ _ ⟨1, Nat.one_lt_two⟩ (by show ¬ 1 + 2 = 2; omega))

/-- The bytes of field `f` as numbers: four times the codes. -/
theorem codes_apply (x y z : IVec S32x128 8) (f : Fin 4) (r : Fin 32) (l : Fin 128) :
    codes (F := Ideal) (fieldWord (word x) (word y) (qword z) f) (ValueIdx.ix2 r l)
      = (((4 * code (x (ValueIdx.ix2 r l)) (y (ValueIdx.ix2 r l)) (z (ValueIdx.ix2 r l)) f : Int) : ℝ) : EReal) := by
  have e : bitcast S32x128 8 (fieldWord (word x) (word y) (qword z) f) bitcasts_S8x128_w32_S32x128_w8 (ValueIdx.ix2 r l)
      = codeByte (x (ValueIdx.ix2 r l)) (y (ValueIdx.ix2 r l)) (z (ValueIdx.ix2 r l)) f := by
    refine BitVec.eq_of_getLsbD_eq fun i hi => ?_
    rw [bytes_apply _ r l i hi, fieldWord_apply]
    have k := fieldW_byte (word x (ValueIdx.ix2 ⟨r.val / 4, by omega⟩ l)) (word y (ValueIdx.ix2 ⟨r.val / 4, by omega⟩ l))
      (word z (ValueIdx.ix2 ⟨r.val / 4, by omega⟩ l)) (x (ValueIdx.ix2 r l)) (y (ValueIdx.ix2 r l)) (z (ValueIdx.ix2 r l)) f
      ⟨r.val % 4, by omega⟩ (word_getLsbD x r l) (word_getLsbD y r l) (word_getLsbD z r l) i hi
    exact k
  rw [← codeByte_toInt]
  exact congrArg (fun b : BitVec 8 => ((b.toInt : ℝ) : EReal)) e

end Cert.Codes
-- ==== Proof.Blocks.lean ====
/-  The weight matrix of one trip, read at one row of the super-block and one output column, over the extended reals: four
    times the code of that row's field, times the scale of its sub-block. -/
module

public import proofs.«01_k».proof.Proof.Codes

@[expose] public section

set_option maxRecDepth 16384

noncomputable section

namespace Cert.Blocks

open Cert.KernelIdeal Cert.KernelIdeal.Gen Idealize.ShloMosaic Idealize.ShloMosaic.TcCoe Idealize.SL.Sem Cert.Weights Cert.Codes

/-- Eight copies of a row, at an index: the row. -/
theorem rows_apply (x : FVec Ideal S1x128 .bf16) (u : Fin 8) (l : Fin 128) :
    concatenate S8x128 0 [⟨S1x128, x⟩, ⟨S1x128, x⟩, ⟨S1x128, x⟩, ⟨S1x128, x⟩, ⟨S1x128, x⟩, ⟨S1x128, x⟩, ⟨S1x128, x⟩, ⟨S1x128, x⟩]
      concatenates_S1x128_S1x128_S1x128_S1x128_S1x128_S1x128_S1x128_S1x128_S8x128_d0 (ValueIdx.ix2 u l) = x (ValueIdx.ix2 0 l) := by
  refine concatenate_replicate_apply (t := S8x128) 0 8 x
    concatenates_S1x128_S1x128_S1x128_S1x128_S1x128_S1x128_S1x128_S1x128_S8x128_d0 rfl _ _ ?_ ?_
  · show 0 = u.val % 1
    omega
  · intro b hb
    match b with
    | ⟨0, _⟩ => exact absurd rfl hb
    | ⟨1, _⟩ => rfl

/-- A scale row spread over sixteen rows, at an index. -/
theorem scaleRows_apply (e : Vec Ideal S1x2x128 .bf16) (u : Fin 16) (l : Fin 128) :
    scaleRows (F := Ideal) e (ValueIdx.ix2 u l) = e (ValueIdx.ix3 0 ⟨u.val % 2, by omega⟩ l) := by
  have key : ∀ p : Fin 2, ∀ g : Fin 1, shapeCast S1x128 (rowsOfParity p S1x1x128 e bitcasts_S1x2x128_w16_S1x1x128_w32)
      shapeCasts_S1x1x128_S1x128 (ValueIdx.ix2 g l) = e (ValueIdx.ix3 0 p l) := by
    intro p g
    pointwise
    rfl
  unfold scaleRows
  rw [interleaveRows_apply]
  have hrow : S16x128.row (ValueIdx.ix2 u l) = u.val := rfl
  have hi : ∀ g : S8x128.Idx, g = ValueIdx.ix2 ⟨u.val / 2, by omega⟩ l →
      (if S16x128.row (ValueIdx.ix2 u l) % 2 = 0 then
        concatenate S8x128 0 (List.replicate 8 (⟨S1x128, shapeCast S1x128 (rowsOfParity 0 S1x1x128 e bitcasts_S1x2x128_w16_S1x1x128_w32) shapeCasts_S1x1x128_S1x128⟩ : (s : Shape) × (s.Idx → Ideal .bf16)))
          concatenates_S1x128_S1x128_S1x128_S1x128_S1x128_S1x128_S1x128_S1x128_S8x128_d0 g
      else
        concatenate S8x128 0 (List.replicate 8 (⟨S1x128, shapeCast S1x128 (rowsOfParity 1 S1x1x128 e bitcasts_S1x2x128_w16_S1x1x128_w32) shapeCasts_S1x1x128_S1x128⟩ : (s : Shape) × (s.Idx → Ideal .bf16)))
          concatenates_S1x128_S1x128_S1x128_S1x128_S1x128_S1x128_S1x128_S1x128_S8x128_d0 g)
        = e (ValueIdx.ix3 0 ⟨u.val % 2, by omega⟩ l) := by
    intro g hg
    subst hg
    rw [hrow]
    by_cases c : u.val % 2 = 0
    · rw [if_pos c]
      refine (rows_apply _ _ l).trans ((key 0 0).trans ?_)
      congr 2
      exact Fin.ext c.symm
    · rw [if_neg c]
      refine (rows_apply _ _ l).trans ((key 1 0).trans ?_)
      congr 2
      exact Fin.ext (show 1 = u.val % 2 by omega)
  refine hi _ ?_
  funext a
  match a with
  | ⟨0, _⟩ => rfl
  | ⟨1, _⟩ => rfl

/-- The first sixteen rows of a field, at an index: the code there times the scale. -/
theorem piece0_apply (w : IVec S8x128 32) (e : Vec Ideal S1x2x128 .bf16) (u : Fin 16) (l : Fin 128) :
    piece0 (F := Ideal) w e (ValueIdx.ix2 u l)
      = codes (F := Ideal) w (ValueIdx.ix2 ⟨u.val, by omega⟩ l) * e (ValueIdx.ix3 0 ⟨u.val % 2, by omega⟩ l) := by
  refine (congrArg₂ (· * ·) ?_ (scaleRows_apply e u l) : _ * _ = _)
  pointwise
  rfl

/-- The last sixteen rows of a field, at an index: the code there times the scale. -/
theorem piece1_apply (w : IVec S8x128 32) (e : Vec Ideal S1x2x128 .bf16) (u : Fin 16) (l : Fin 128) :
    piece1 (F := Ideal) w e (ValueIdx.ix2 u l)
      = codes (F := Ideal) w (ValueIdx.ix2 ⟨16 + u.val, by omega⟩ l) * e (ValueIdx.ix3 0 ⟨u.val % 2, by omega⟩ l) := by
  refine (congrArg₂ (· * ·) ?_ (scaleRows_apply e u l) : _ * _ = _)
  pointwise
  rfl

/-- The first sixteen rows of field `f`, as piece `2 f` of the eight pieces of a half super-block. -/
theorem piece0_field (x y z : IVec S32x128 8) (e : Vec Ideal S1x2x128 .bf16) (p : Fin 8) (f : Fin 4) (hp : p.val = 2 * f.val)
    (u : Fin 16) (l : Fin 128) :
    piece0 (F := Ideal) (fieldWord (word x) (word y) (qword z) f) e (ValueIdx.ix2 u l)
      = codes (F := Ideal) (fieldWord (word x) (word y) (qword z) ⟨p.val / 2, by omega⟩)
          (ValueIdx.ix2 ⟨16 * (p.val % 2) + u.val, by omega⟩ l) * e (ValueIdx.ix3 0 ⟨u.val % 2, by omega⟩ l) := by
  have e1 : (⟨p.val / 2, by omega⟩ : Fin 4) = f := Fin.ext (by show p.val / 2 = f.val; omega)
  have e2 : (⟨16 * (p.val % 2) + u.val, by omega⟩ : Fin 32) = ⟨u.val, by omega⟩ :=
    Fin.ext (by show 16 * (p.val % 2) + u.val = u.val; omega)
  rw [e1, e2]
  exact piece0_apply _ _ u l

/-- The last sixteen rows of field `f`, as piece `2 f + 1` of the eight pieces of a half super-block. -/
theorem piece1_field (x y z : IVec S32x128 8) (e : Vec Ideal S1x2x128 .bf16) (p : Fin 8) (f : Fin 4) (hp : p.val = 2 * f.val + 1)
    (u : Fin 16) (l : Fin 128) :
    piece1 (F := Ideal) (fieldWord (word x) (word y) (qword z) f) e (ValueIdx.ix2 u l)
      = codes (F := Ideal) (fieldWord (word x) (word y) (qword z) ⟨p.val / 2, by omega⟩)
          (ValueIdx.ix2 ⟨16 * (p.val % 2) + u.val, by omega⟩ l) * e (ValueIdx.ix3 0 ⟨u.val % 2, by omega⟩ l) := by
  have e1 : (⟨p.val / 2, by omega⟩ : Fin 4) = f := Fin.ext (by show p.val / 2 = f.val; omega)
  have e2 : (⟨16 * (p.val % 2) + u.val, by omega⟩ : Fin 32) = ⟨16 + u.val, by omega⟩ :=
    Fin.ext (by show 16 * (p.val % 2) + u.val = 16 + u.val; omega)
  rw [e1, e2]
  exact piece1_apply _ _ u l

/-- Row `16 p + u` of half a super-block: four times the code of field `p / 2`, times the scale of sub-block `p`. -/
theorem half_apply (x y z : IVec S32x128 8) (e : Fin 8 → Vec Ideal S1x2x128 .bf16) (p : Fin 8) (u : Fin 16) (l : Fin 128) :
    half (F := Ideal) (word x) (word y) (qword z) e (ValueIdx.ix2 ⟨16 * p.val + u.val, by omega⟩ l)
      = (((4 * code (x (ValueIdx.ix2 ⟨16 * (p.val % 2) + u.val, by omega⟩ l)) (y (ValueIdx.ix2 ⟨16 * (p.val % 2) + u.val, by omega⟩ l))
          (z (ValueIdx.ix2 ⟨16 * (p.val % 2) + u.val, by omega⟩ l)) ⟨p.val / 2, by omega⟩ : Int) : ℝ) : EReal)
        * e p (ValueIdx.ix3 0 ⟨u.val % 2, by omega⟩ l) := by
  rw [← codes_apply]
  unfold half
  refine (concatenate_ofFn_apply (t := S128x128) (s₁ := S16x128) 0
    ![piece0 (fieldWord (word x) (word y) (qword z) 0) (e 0), piece1 (fieldWord (word x) (word y) (qword z) 0) (e 1),
      piece0 (fieldWord (word x) (word y) (qword z) 1) (e 2), piece1 (fieldWord (word x) (word y) (qword z) 1) (e 3),
      piece0 (fieldWord (word x) (word y) (qword z) 2) (e 4), piece1 (fieldWord (word x) (word y) (qword z) 2) (e 5),
      piece0 (fieldWord (word x) (word y) (qword z) 3) (e 6), piece1 (fieldWord (word x) (word y) (qword z) 3) (e 7)]
    _ rfl 16 rfl _ p ?_ (ValueIdx.ix2 u l) ?_ ?_).trans ?_
  · show (16 * p.val + u.val) / 16 = p.val
    omega
  · show u.val = (16 * p.val + u.val) % 16
    omega
  · intro b hb
    match b with
    | ⟨0, _⟩ => exact absurd rfl hb
    | ⟨1, _⟩ => rfl
  · match p with
    | ⟨0, _⟩ => exact piece0_field x y z (e 0) 0 0 rfl u l
    | ⟨1, _⟩ => exact piece1_field x y z (e 1) 1 0 rfl u l
    | ⟨2, _⟩ => exact piece0_field x y z (e 2) 2 1 rfl u l
    | ⟨3, _⟩ => exact piece1_field x y z (e 3) 3 1 rfl u l
    | ⟨4, _⟩ => exact piece0_field x y z (e 4) 4 2 rfl u l
    | ⟨5, _⟩ => exact piece1_field x y z (e 5) 5 2 rfl u l
    | ⟨6, _⟩ => exact piece0_field x y z (e 6) 6 3 rfl u l
    | ⟨7, _⟩ => exact piece1_field x y z (e 7) 7 3 rfl u l

/-- The weight matrix of a trip at row `128 h + 16 p + u` and column `128 c + l`. -/
theorem matrix_apply (x y z : Fin 2 → Fin 2 → IVec S32x128 8) (e : Fin 2 → Fin 2 → Fin 8 → Vec Ideal S1x2x128 .bf16)
    (c h : Fin 2) (p : Fin 8) (u : Fin 16) (l : Fin 128) :
    matrix (F := Ideal) x y z e (ValueIdx.ix2 ⟨128 * h.val + (16 * p.val + u.val), by omega⟩ ⟨128 * c.val + l.val, by omega⟩)
      = (((4 * code (x c h (ValueIdx.ix2 ⟨16 * (p.val % 2) + u.val, by omega⟩ l)) (y c h (ValueIdx.ix2 ⟨16 * (p.val % 2) + u.val, by omega⟩ l))
          (z c h (ValueIdx.ix2 ⟨16 * (p.val % 2) + u.val, by omega⟩ l)) ⟨p.val / 2, by omega⟩ : Int) : ℝ) : EReal)
        * e c h p (ValueIdx.ix3 0 ⟨u.val % 2, by omega⟩ l) := by
  unfold matrix
  refine (concatenate_ofFn_apply (t := S256x256) (s₁ := S256x128) 1
    ![concatenate S256x128 0
        [⟨S128x128, half (word (x 0 0)) (word (y 0 0)) (qword (z 0 0)) (e 0 0)⟩,
         ⟨S128x128, half (word (x 0 1)) (word (y 0 1)) (qword (z 0 1)) (e 0 1)⟩] concatenates_S128x128_S128x128_S256x128_d0,
      concatenate S256x128 0
        [⟨S128x128, half (word (x 1 0)) (word (y 1 0)) (qword (z 1 0)) (e 1 0)⟩,
         ⟨S128x128, half (word (x 1 1)) (word (y 1 1)) (qword (z 1 1)) (e 1 1)⟩] concatenates_S128x128_S128x128_S256x128_d0]
    _ rfl 128 rfl _ c ?_ (ValueIdx.ix2 ⟨128 * h.val + (16 * p.val + u.val), by omega⟩ l) ?_ ?_).trans ?_
  · show (128 * c.val + l.val) / 128 = c.val
    omega
  · show l.val = (128 * c.val + l.val) % 128
    omega
  · intro b hb
    match b with
    | ⟨0, _⟩ => rfl
    | ⟨1, _⟩ => exact absurd rfl hb
  have key : ∀ c : Fin 2, concatenate S256x128 0
        [⟨S128x128, half (word (x c 0)) (word (y c 0)) (qword (z c 0)) (e c 0)⟩,
         ⟨S128x128, half (word (x c 1)) (word (y c 1)) (qword (z c 1)) (e c 1)⟩] concatenates_S128x128_S128x128_S256x128_d0
        (ValueIdx.ix2 ⟨128 * h.val + (16 * p.val + u.val), by omega⟩ l)
      = half (F := Ideal) (word (x c h)) (word (y c h)) (qword (z c h)) (e c h) (ValueIdx.ix2 ⟨16 * p.val + u.val, by omega⟩ l) := by
    intro c
    refine (concatenate_ofFn_apply (t := S256x128) (s₁ := S128x128) 0
      ![half (word (x c 0)) (word (y c 0)) (qword (z c 0)) (e c 0), half (word (x c 1)) (word (y c 1)) (qword (z c 1)) (e c 1)]
      _ rfl 128 rfl _ h ?_ (ValueIdx.ix2 ⟨16 * p.val + u.val, by omega⟩ l) ?_ ?_).trans ?_
    · show (128 * h.val + (16 * p.val + u.val)) / 128 = h.val
      omega
    · show 16 * p.val + u.val = (128 * h.val + (16 * p.val + u.val)) % 128
      omega
    · intro b hb
      match b with
      | ⟨0, _⟩ => exact absurd rfl hb
      | ⟨1, _⟩ => rfl
    · match h with
      | ⟨0, _⟩ => rfl
      | ⟨1, _⟩ => rfl
  rw [← half_apply, ← key c]
  match c with
  | ⟨0, _⟩ => rfl
  | ⟨1, _⟩ => rfl

end Cert.Blocks
-- ==== Proof.Decode.lean ====
/-  The kernel decodes a half-precision scale from its sixteen bits with integer operations and, for a subnormal, one
    subtraction; over the extended reals the result is the value that the sixteen bits denote. -/
module

public import proofs.«01_k».proof.Proof.Gen.KernelIdeal.Skeleton
public import Idealize.ShloMosaic.Lib.Pointwise

@[expose] public section

set_option maxRecDepth 16384

noncomputable section

namespace Cert.Decode

open Cert.KernelIdeal Cert.KernelIdeal.Gen Idealize.ShloMosaic Idealize.ShloMosaic.TcCoe Idealize.SL.Sem

variable {F : FTy → Type} [FloatOps F]

/-- The fifteen bits below the sign. -/
def mag (h : BitVec 16) : BitVec 32 := IntOp.andi (h.signExtend 32) 32767#32

/-- The sign bit, at the place it has in thirty-two bits. -/
def sgn (h : BitVec 16) : BitVec 32 := IntOp.shli .vector (IntOp.andi (h.signExtend 32) 32768#32) 16#32

/-- The magnitude with its exponent re-biased. -/
def magWord (h : BitVec 16) : BitVec 32 :=
  Scalar.select (IntOp.cmpi .sge (mag h) 31744#32)
    (IntOp.addi (IntOp.addi (IntOp.shli .vector (mag h) 13#32) 939524096#32) 939524096#32)
    (IntOp.addi (IntOp.shli .vector (mag h) 13#32) 939524096#32)

/-- The word of a subnormal, one binade up. -/
def subWord (h : BitVec 16) : BitVec 32 := IntOp.addi (magWord h) 8388608#32

/-- A subnormal's magnitude. -/
def sub (h : BitVec 16) : F .f32 :=
  FloatOps.subf (FloatOps.ofBits .f32 (subWord h)) (FloatOps.ofBits .f32 0x38800000#32)

/-- The kernel's value of sixteen bits. -/
def dec16 (h : BitVec 16) : F .f32 :=
  Scalar.select (IntOp.cmpi .slt (mag h) 1024#32)
    (Scalar.select (IntOp.cmpi .ne (sgn h) 0#32) (FloatOps.subf (FloatOps.ofBits .f32 0x00000000#32) (sub h)) (sub h))
    (FloatOps.ofBits .f32 (IntOp.ori (magWord h) (sgn h)))

/-- The payload that decodes a block of scales, read at an index: a quarter of the decoded value. -/
theorem k0_pay340_apply (x : Vec F S14x128 .i16) (i : S14x128.Idx) :
    k0_pay340 (F := F) x i = FloatOps.mulf (dec16 (x i)) (FloatOps.ofBits .f32 0x3E800000#32) := by
  have e : shapeCast S14x128 (show IVec S14x128 16 from x) shapeCasts_S14x128_S14x128 = x := shapeCast_self _ _
  unfold k0_pay340
  rw [e]
  rfl

/-! ## The bits -/

/-- The sixteen bits extended by sign, as a natural number. -/
theorem signExtend_toNat (h : BitVec 16) : (h.signExtend 32).toNat = if h.toNat < 32768 then h.toNat else h.toNat + 4294901760 := by
  have hlt := h.isLt
  rw [BitVec.toNat_signExtend, BitVec.toNat_setWidth, BitVec.msb_eq_decide]
  by_cases c : h.toNat < 32768
  · have : ¬ (2 ^ (16 - 1) ≤ h.toNat) := by omega
    simp only [this, decide_false, if_pos c]
    norm_num
    omega
  · have : 2 ^ (16 - 1) ≤ h.toNat := by omega
    simp only [this, decide_true, if_neg c]
    norm_num
    omega

/-- The magnitude bits: the sixteen bits modulo 2^15. -/
theorem mag_toNat (h : BitVec 16) : (mag h).toNat = h.toNat % 32768 := by
  have e : (32767 : Nat) = 2 ^ 15 - 1 := by norm_num
  unfold mag IntOp.andi
  rw [BitVec.toNat_and, signExtend_toNat]
  show _ &&& 32767 = _
  rw [e, Nat.and_two_pow_sub_one_eq_mod]
  split <;> omega

/-- And with 2^15 keeps that bit alone. -/
theorem and_two_pow15 (n : Nat) : n &&& 2 ^ 15 = n / 32768 % 2 * 32768 := by
  have key : ∀ q : Nat, n &&& 2 ^ q = n / 2 ^ q % 2 * 2 ^ q := fun q => by
    refine Nat.eq_of_testBit_eq fun i => ?_
    rw [Nat.testBit_and, Nat.testBit_two_pow, Nat.testBit_mul_two_pow]
    have hf : ∀ j, j ≠ 0 → (n / 2 ^ q % 2).testBit j = false := fun j hj => by
      refine Nat.testBit_lt_two_pow (Nat.lt_of_lt_of_le (Nat.mod_lt _ (by norm_num)) ?_)
      calc 2 = 2 ^ 1 := by norm_num
        _ ≤ 2 ^ j := Nat.pow_le_pow_right (by norm_num) (by omega)
    by_cases c : q = i
    · subst c
      have : (n / 2 ^ q % 2).testBit 0 = n.testBit q := by
        rw [Nat.testBit_zero, Nat.testBit_eq_decide_div_mod_eq, Nat.mod_mod]
      rw [Nat.sub_self, this]
      simp
    · by_cases d : q ≤ i
      · rw [hf (i - q) (by omega)]
        simp [c]
      · simp [c, d]
  exact key 15

/-- The sign word: bit 15 moved to bit 31. -/
theorem sgn_toNat (h : BitVec 16) : (sgn h).toNat = h.toNat / 32768 * 2147483648 := by
  have hlt := h.isLt
  have e : (IntOp.andi (h.signExtend 32) 32768#32).toNat = h.toNat / 32768 * 32768 := by
    unfold IntOp.andi
    rw [BitVec.toNat_and, signExtend_toNat]
    show _ &&& 2 ^ 15 = _
    rw [and_two_pow15]
    split <;> omega
  unfold sgn IntOp.shli
  rw [if_pos (by decide)]
  show (BitVec.shiftLeft _ 16).toNat = _
  rw [BitVec.shiftLeft_eq]
  rw [BitVec.toNat_shiftLeft, e, Nat.shiftLeft_eq]
  omega

/-- The magnitude shifted left by thirteen places, without overflow. -/
theorem magShift_toNat (h : BitVec 16) : (IntOp.shli .vector (mag h) 13#32).toNat = h.toNat % 32768 * 8192 := by
  unfold IntOp.shli
  rw [if_pos (by decide)]
  show (BitVec.shiftLeft _ 13).toNat = _
  rw [BitVec.shiftLeft_eq]
  rw [BitVec.toNat_shiftLeft, mag_toNat, Nat.shiftLeft_eq]
  omega

/-- The magnitude as a signed number is not negative. -/
theorem mag_toInt (h : BitVec 16) : (mag h).toInt = ((h.toNat % 32768 : Nat) : Int) := by
  rw [BitVec.toInt_eq_toNat_of_lt (by rw [mag_toNat]; omega), mag_toNat]

/-- The kernel's test for infinite and undefined numbers. -/
theorem cmpi_sge (h : BitVec 16) : IntOp.cmpi .sge (mag h) 31744#32 = 1 ↔ 31744 ≤ h.toNat % 32768 := by
  have e : (31744#32 : BitVec 32).toInt = 31744 := by decide
  simp only [IntOp.cmpi, BitVec.sle, mag_toInt, e]
  by_cases c : (31744 : Int) ≤ ((h.toNat % 32768 : Nat) : Int)
  · simp only [c, decide_true]; exact ⟨fun _ => by omega, fun _ => rfl⟩
  · simp only [c, decide_false]; exact ⟨fun q => absurd q (by decide), fun _ => absurd c (by omega)⟩

/-- The kernel's test for zero and subnormal numbers. -/
theorem cmpi_slt (h : BitVec 16) : IntOp.cmpi .slt (mag h) 1024#32 = 1 ↔ h.toNat % 32768 < 1024 := by
  have e : (1024#32 : BitVec 32).toInt = 1024 := by decide
  simp only [IntOp.cmpi, BitVec.slt, mag_toInt, e]
  by_cases c : ((h.toNat % 32768 : Nat) : Int) < 1024
  · simp only [c, decide_true]; exact ⟨fun _ => by omega, fun _ => rfl⟩
  · simp only [c, decide_false]; exact ⟨fun q => absurd q (by decide), fun _ => absurd c (by omega)⟩

/-- Adding the difference of the exponent biases, without overflow. -/
theorem add_bias (x : BitVec 32) (n : Nat) (hx : x.toNat = n) (hn : n < 3355443200) :
    (IntOp.addi x 939524096#32).toNat = n + 939524096 := by
  have e1 : (939524096#32 : BitVec 32).toNat = 939524096 := rfl
  unfold IntOp.addi
  rw [BitVec.toNat_add, e1, hx]
  exact Nat.mod_eq_of_lt (by omega)

/-- The magnitude word of an infinite or undefined number. -/
theorem magWord_toNat_of_ge (h : BitVec 16) (c : 31744 ≤ h.toNat % 32768) :
    (magWord h).toNat = h.toNat % 32768 * 8192 + 939524096 + 939524096 := by
  have e : magWord h = IntOp.addi (IntOp.addi (IntOp.shli .vector (mag h) 13#32) 939524096#32) 939524096#32 :=
    if_pos ((cmpi_sge h).2 c)
  rw [e]
  exact add_bias _ _ (add_bias _ _ (magShift_toNat h) (by omega)) (by omega)

/-- The magnitude word of a finite number. -/
theorem magWord_toNat_of_lt (h : BitVec 16) (c : ¬ 31744 ≤ h.toNat % 32768) :
    (magWord h).toNat = h.toNat % 32768 * 8192 + 939524096 := by
  have e : magWord h = IntOp.addi (IntOp.shli .vector (mag h) 13#32) 939524096#32 :=
    if_neg fun q => c ((cmpi_sge h).1 q)
  rw [e]
  exact add_bias _ _ (magShift_toNat h) (by omega)

/-- The magnitude word with the sign bit set on it. -/
theorem signed_toNat (h : BitVec 16) (n : Nat) (hn : (magWord h).toNat = n) (hlt : n < 2147483648) :
    (IntOp.ori (magWord h) (sgn h)).toNat = h.toNat / 32768 * 2147483648 + n := by
  have e := Nat.two_pow_add_eq_or_of_lt (i := 31) (b := n) (by norm_num; exact hlt) (h.toNat / 32768)
  unfold IntOp.ori
  rw [BitVec.toNat_or, hn, sgn_toNat, Nat.or_comm, Nat.mul_comm (h.toNat / 32768)]
  exact e.symm

/-- The kernel's test of the sign bit. -/
theorem cmpi_ne (h : BitVec 16) : IntOp.cmpi .ne (sgn h) 0#32 = 1 ↔ h.toNat / 32768 = 1 := by
  have hlt := h.isLt
  have hz : sgn h = 0#32 ↔ h.toNat / 32768 = 0 := by
    rw [← BitVec.toNat_inj, sgn_toNat]
    show _ = 0 ↔ _
    omega
  by_cases c : sgn h = 0#32
  · have : IntOp.cmpi .ne (sgn h) 0#32 = 0 := by rw [c]; rfl
    rw [this]
    have := hz.1 c
    exact ⟨fun q => absurd q (by decide), fun q => absurd q (by omega)⟩
  · have e : IntOp.cmpi .ne (sgn h) 0#32 = 1 := by
      show BitVec.ofBool (sgn h != 0#32) = 1
      rw [bne_iff_ne.2 c]; rfl
    rw [e]
    have : ¬ h.toNat / 32768 = 0 := fun q => c (hz.2 q)
    exact ⟨fun _ => by omega, fun _ => rfl⟩

/-! ## The values -/

/-- The value of a float with sign `s`, exponent field `ex` (`e` bits) and fraction field `fr` (`m` bits). -/
def fieldsVal (e m s ex fr : Nat) : EReal :=
  if ex = 2 ^ e - 1 then (if fr = 0 then (if s = 1 then ⊥ else ⊤) else ⊥)
  else if ex = 0 then (((if s = 1 then -1 else 1) * fr * (2 : ℝ) ^ (1 - (2 ^ (e - 1) - 1) - m : Int) : ℝ) : EReal)
  else (((if s = 1 then -1 else 1) * (2 ^ m + fr : Nat) * (2 : ℝ) ^ ((ex : Int) - (2 ^ (e - 1) - 1) - m) : ℝ) : EReal)

/-- The value of the fields when the exponent is the largest. -/
theorem fieldsVal_top (e m s ex fr : Nat) (h : ex = 2 ^ e - 1) :
    fieldsVal e m s ex fr = if fr = 0 then (if s = 1 then ⊥ else ⊤) else ⊥ := if_pos h

/-- The value of the fields of a normal number. -/
theorem fieldsVal_mid (e m s ex fr : Nat) (h : ex ≠ 2 ^ e - 1) (h0 : ex ≠ 0) :
    fieldsVal e m s ex fr
      = (((if s = 1 then -1 else 1) * (2 ^ m + fr : Nat) * (2 : ℝ) ^ ((ex : Int) - (2 ^ (e - 1) - 1) - m) : ℝ) : EReal) :=
  (if_neg h).trans (if_neg h0)

/-- The value of a word of a float format, from its sign, exponent and fraction. -/
theorem ieee_eq (e m : Nat) {w : Nat} (b : BitVec w) (s ex fr : Nat) (hs : b.toNat / 2 ^ (e + m) % 2 = s)
    (hex : b.toNat / 2 ^ m % 2 ^ e = ex) (hfr : b.toNat % 2 ^ m = fr) : Ideal.ieee e m b = fieldsVal e m s ex fr := by
  have e1 : (b.extractLsb' m e).toNat = ex := by
    rw [BitVec.extractLsb'_toNat, Nat.shiftRight_eq_div_pow, hex]
  have e2 : (b.extractLsb' 0 m).toNat = fr := by
    rw [BitVec.extractLsb'_toNat, Nat.shiftRight_zero, hfr]
  have e3 : (b.extractLsb' (e + m) 1 == 1#1) = decide (s = 1) := by
    rw [Bool.eq_iff_iff, beq_iff_eq, decide_eq_true_iff, ← BitVec.toNat_inj, BitVec.extractLsb'_toNat,
      Nat.shiftRight_eq_div_pow]
    show _ % 2 = 1 ↔ _
    rw [hs]
  unfold Ideal.ieee fieldsVal
  simp only [e1, e2, e3, decide_eq_true_eq]

/-- The value of a half-precision word, from its three fields. -/
theorem half_eq (h : BitVec 16) :
    Ideal.ofBits .f16 h = fieldsVal 5 10 (h.toNat / 32768) (h.toNat % 32768 / 1024) (h.toNat % 1024) := by
  have hlt := h.isLt
  refine ieee_eq 5 10 h _ _ _ ?_ ?_ ?_ <;> norm_num <;> omega

/-- The kernel's decoded scale is the value of the half-precision float. -/
theorem dec16_eq (h : BitVec 16) : dec16 (F := Ideal) h = Ideal.ofBits .f16 h := by
  have hlt := h.isLt
  rw [half_eq]
  unfold dec16
  by_cases c : h.toNat % 32768 < 1024
  · rw [show ∀ a b : Ideal .f32, Scalar.select (IntOp.cmpi .slt (mag h) 1024#32) a b = a from
      fun a b => if_pos ((cmpi_slt h).2 c)]
    have ex0 : h.toNat % 32768 / 1024 = 0 := by omega
    have fr0 : h.toNat % 1024 = h.toNat % 32768 := by omega
    have hw : (subWord h).toNat = 947912704 + h.toNat % 32768 * 8192 := by
      have e1 : (8388608#32 : BitVec 32).toNat = 8388608 := rfl
      unfold subWord IntOp.addi
      rw [BitVec.toNat_add, e1, magWord_toNat_of_lt h (by omega), Nat.mod_eq_of_lt (by omega)]
      omega
    have hv : (Ideal.ofBits .f32 (subWord h)) = fieldsVal 8 23 0 113 (h.toNat % 32768 * 8192) := by
      refine ieee_eq 8 23 _ _ _ _ ?_ ?_ ?_ <;> rw [hw] <;> norm_num <;> omega
    have hk : Ideal.ofBits .f32 0x38800000#32 = (((2 : ℝ) ^ (-14 : Int) : ℝ) : EReal) := by
      simp [Ideal.ofBits, Ideal.ieee, -EReal.coe_mul]; norm_num
    have hsub : sub (F := Ideal) h = ((((h.toNat % 32768 : Nat) : ℝ) * (2 : ℝ) ^ (-24 : Int) : ℝ) : EReal) := by
      show Ideal.ofBits .f32 (subWord h) - Ideal.ofBits .f32 0x38800000#32 = _
      rw [hv, hk]
      unfold fieldsVal
      rw [if_neg (by norm_num), if_neg (by norm_num), ← EReal.coe_sub]
      refine EReal.coe_eq_coe_iff.2 ?_
      push_cast
      norm_num
      ring
    rw [hsub, ex0, fr0]
    unfold fieldsVal
    rw [if_neg (by norm_num), if_pos rfl]
    by_cases n : h.toNat / 32768 = 1
    · rw [show ∀ a b : Ideal .f32, Scalar.select (IntOp.cmpi .ne (sgn h) 0#32) a b = a from
        fun a b => if_pos ((cmpi_ne h).2 n), if_pos n]
      show Ideal.ofBits .f32 0x00000000#32 - _ = _
      rw [Ideal.ofBits_zero_f32, zero_sub, ← EReal.coe_neg]
      refine EReal.coe_eq_coe_iff.2 ?_
      norm_num
    · rw [show ∀ a b : Ideal .f32, Scalar.select (IntOp.cmpi .ne (sgn h) 0#32) a b = b from
        fun a b => if_neg fun q => n ((cmpi_ne h).1 q), if_neg n]
      refine EReal.coe_eq_coe_iff.2 ?_
      norm_num
  · rw [show ∀ a b : Ideal .f32, Scalar.select (IntOp.cmpi .slt (mag h) 1024#32) a b = b from
      fun a b => if_neg fun q => c ((cmpi_slt h).1 q)]
    show Ideal.ofBits .f32 _ = _
    by_cases g : 31744 ≤ h.toNat % 32768
    · have hw := signed_toNat h _ (magWord_toNat_of_ge h g) (by omega)
      have ex0 : h.toNat % 32768 / 1024 = 31 := by omega
      have hv : Ideal.ofBits .f32 (IntOp.ori (magWord h) (sgn h))
          = fieldsVal 8 23 (h.toNat / 32768) 255 (h.toNat % 1024 * 8192) := by
        refine ieee_eq 8 23 _ _ _ _ ?_ ?_ ?_ <;> rw [hw] <;> norm_num <;> omega
      rw [hv, ex0, fieldsVal_top _ _ _ _ _ (by norm_num), fieldsVal_top _ _ _ _ _ (by norm_num)]
      have e : h.toNat % 1024 * 8192 = 0 ↔ h.toNat % 1024 = 0 := by omega
      simp only [e]
    · have hw := signed_toNat h _ (magWord_toNat_of_lt h g) (by omega)
      have hv : Ideal.ofBits .f32 (IntOp.ori (magWord h) (sgn h))
          = fieldsVal 8 23 (h.toNat / 32768) (h.toNat % 32768 / 1024 + 112) (h.toNat % 1024 * 8192) := by
        refine ieee_eq 8 23 _ _ _ _ ?_ ?_ ?_ <;> rw [hw] <;> norm_num <;> omega
      have hx0 : 0 < h.toNat % 32768 / 1024 := by omega
      have hx1 : h.toNat % 32768 / 1024 < 31 := by omega
      rw [hv]
      generalize h.toNat % 32768 / 1024 = ex at *
      generalize h.toNat % 1024 = fr at *
      rw [fieldsVal_mid _ _ _ _ _ (by norm_num; omega) (by omega), fieldsVal_mid _ _ _ _ _ (by norm_num; omega) (by omega)]
      refine EReal.coe_eq_coe_iff.2 ?_
      have e1 : (((ex + 112 : Nat) : Int) - (2 ^ (8 - 1) - 1) - (23 : Nat)) = ((ex : Int) - (2 ^ (5 - 1) - 1) - (10 : Nat)) + (-13) := by
        push_cast; ring
      rw [e1, zpow_add₀ (by norm_num)]
      push_cast
      norm_num
      ring_nf

/-- A quarter. -/
theorem quarter : Ideal.ofBits .f32 0x3E800000#32 = ((1 / 4 : ℝ) : EReal) := by
  simp [Ideal.ofBits, Ideal.ieee, -EReal.coe_mul]; norm_num

/-- Thirty-two. -/
theorem thirtyTwo : Ideal.ofBits .bf16 0x4200#16 = ((32 : ℝ) : EReal) := by
  simp [Ideal.ofBits, Ideal.ieee, -EReal.coe_mul]; norm_num

end Cert.Decode
-- ==== Proof.Fill.lean ====
/-  The scratch the kernel fills with scales before its loops: fifty-six stores, one for each of fourteen super-blocks and
    four chunks of 128 output columns, each of sixteen rows of sub-block scales. A row of the scratch holds a pair, both
    members the same scale: the sub-block's integer scale times a quarter of the super-block's decoded scale. -/
module

public import proofs.«01_k».proof.Proof.Decode
public import proofs.«01_k».proof.Proof.Gen.KernelIdeal.Frame
public import Idealize.ShloMosaic.Lib.WholeRead
public import Idealize.ShloMosaic.Lib.Writes

@[expose] public section

set_option maxRecDepth 16384

noncomputable section

namespace Cert.Fill

open Cert.KernelIdeal Cert.KernelIdeal.Gen Idealize.ShloMosaic Idealize.ShloMosaic.TcCoe Idealize.SL.Sem Cert.Decode

variable {F : FTy → Type} [FloatOps F]

/-- Each of the fourteen rows of decoded scales is a slice. -/
theorem slices_row : ∀ n : Fin 14, S14x128.Slices ![n.val, 0] S1x128 := by decide +kernel

/-- Each block of integer scales that is loaded lies inside its array. -/
theorem inb_scale (n : Fin 14) (c : Fin 4) : ∀ a, (![n.val, 0, 128 * c.val] : Fin 3 → Nat) a + S1x16x128.size a ≤ S14x16x512.size a := by
  intro a
  match a with
  | ⟨0, _⟩ => show n.val + 1 ≤ 14; omega
  | ⟨1, _⟩ => show 0 + 16 ≤ 16; omega
  | ⟨2, _⟩ => show 128 * c.val + 128 ≤ 512; omega

/-- Each block of half-precision scales that is loaded lies inside its array. -/
theorem inb_super (c : Fin 4) : ∀ a, (![0, 128 * c.val] : Fin 2 → Nat) a + S14x128.size a ≤ S14x512.size a := by
  intro a
  match a with
  | ⟨0, _⟩ => show 0 + 14 ≤ 14; omega
  | ⟨1, _⟩ => show 128 * c.val + 128 ≤ 512; omega

/-- Each block of scales that is stored lies inside the scratch. -/
theorem inb_store (n : Fin 14) (c : Fin 4) :
    ∀ a, (![16 * n.val, 0, 128 * c.val] : Fin 3 → Nat) a + S16x2x128.size a ≤ S224x2x512.size a := by
  intro a
  match a with
  | ⟨0, _⟩ => show 16 * n.val + 16 ≤ 224; omega
  | ⟨1, _⟩ => show 0 + 2 ≤ 2; omega
  | ⟨2, _⟩ => show 128 * c.val + 128 ≤ 512; omega

/-- Sixteen rows of scales of super-block `n`, each row twice. -/
def scales (n : Fin 14) (dec : FVec F S14x128 .f32) (sc : Vec F S1x16x128 .i8) : Vec F S16x2x128 .bf16 :=
  let v : FVec F S16x128 .bf16 := truncf .bf16 (mulf (sitofp .f32 (shapeCast S16x128 sc shapeCasts_S1x16x128_S16x128 : IVec S16x128 8))
    (broadcastTo S16x128 (extractStridedSlice S1x128 ![n.val, 0] dec (slices_row n)) broadcasts_S1x128_S16x128))
  interleaveRows S16x2x128 (shapeCast S16x1x128 v shapeCasts_S16x128_S16x1x128) (shapeCast S16x1x128 v shapeCasts_S16x128_S16x1x128)
    bitcasts_S16x2x128_w16_S16x1x128_w32

/-- The store of super-block `n`, chunk `c`. -/
def piece (arg4 : Memref sig .tc .vmem S14x16x512 .i8) (harg4 : arg4.IsWhole) (arg5 : Memref sig .tc .vmem S14x512 .i16)
    (harg5 : arg5.IsWhole) (sc : Vec F S14x16x512 .i8) (d : Vec F S14x512 .i16) (n : Fin 14) (c : Fin 4) :
    View.Piece (Elt F) S224x2x512 .bf16 :=
  ⟨Rect.unit ![16 * n.val, 0, 128 * c.val] S16x2x128.size (inb_store n c),
    scales n
      (k0_pay340 (View.readAt (Elt F) arg5.view (Rect.unit (s := S14x512) ![0, 128 * c.val] S14x128.size (inb_super c)).toLoadRect (harg5.unread d)))
      (View.readAt (Elt F) arg4.view (Rect.unit (s := S14x16x512) ![n.val, 0, 128 * c.val] S1x16x128.size (inb_scale n c)).toLoadRect (harg4.unread sc))⟩

/-- All fifty-six stores, the last first. -/
def pieces (arg4 : Memref sig .tc .vmem S14x16x512 .i8) (harg4 : arg4.IsWhole) (arg5 : Memref sig .tc .vmem S14x512 .i16)
    (harg5 : arg5.IsWhole) (sc : Vec F S14x16x512 .i8) (d : Vec F S14x512 .i16) : List (View.Piece (Elt F) S224x2x512 .bf16) :=
  List.ofFn fun i : Fin 56 => piece arg4 harg4 arg5 harg5 sc d ⟨13 - i.val % 14, by omega⟩ ⟨3 - i.val / 14, by omega⟩

set_option maxHeartbeats 4000000 in
/-- The kernel's stores of the gate scales. -/
theorem gate_pieces (c : Dev nD) (arg4 : Memref sig .tc .vmem S14x16x512 .i8) (harg4 : arg4.IsWhole)
    (arg5 : Memref sig .tc .vmem S14x512 .i16) (harg5 : arg5.IsWhole) (sc : Vec F S14x16x512 .i8) (d : Vec F S14x512 .i16) :
    kernelRun0_A.sl.HS0_56 (F := F) c arg4 harg4 arg5 harg5 sc d = pieces arg4 harg4 arg5 harg5 sc d := by
  unfold kernelRun0_A.sl.HS0_56
  rfl

set_option maxHeartbeats 4000000 in
/-- The kernel's stores of the up scales. -/
theorem up_pieces (c : Dev nD) (arg8 : Memref sig .tc .vmem S14x16x512 .i8) (harg8 : arg8.IsWhole)
    (arg9 : Memref sig .tc .vmem S14x512 .i16) (harg9 : arg9.IsWhole) (sc : Vec F S14x16x512 .i8) (d : Vec F S14x512 .i16) :
    kernelRun0_A.sl.HS1_56 (F := F) c arg8 harg8 arg9 harg9 sc d = pieces arg8 harg8 arg9 harg9 sc d := by
  unfold kernelRun0_A.sl.HS1_56
  rfl

/-- A stored block of scales, at an index: the integer scale times the decoded scale of its super-block. -/
theorem scales_apply (n : Fin 14) (dec : FVec Ideal S14x128 .f32) (sc : Vec Ideal S1x16x128 .i8) (u : Fin 16) (q : Fin 2)
    (l : Fin 128) :
    scales (F := Ideal) n dec sc (ValueIdx.ix3 u q l)
      = ((((sc (ValueIdx.ix3 0 u l) : BitVec 8).toInt : ℝ) : EReal)) * dec (ValueIdx.ix2 n l) := by
  have key : ∀ g : S16x1x128.Idx, g = ValueIdx.ix3 u 0 l →
      shapeCast S16x1x128 (truncf .bf16 (mulf (sitofp .f32 (shapeCast S16x128 sc shapeCasts_S1x16x128_S16x128 : IVec S16x128 8))
        (broadcastTo S16x128 (extractStridedSlice S1x128 ![n.val, 0] dec (slices_row n)) broadcasts_S1x128_S16x128)) : FVec Ideal S16x128 .bf16)
        shapeCasts_S16x128_S16x1x128 g
      = ((((sc (ValueIdx.ix3 0 u l) : BitVec 8).toInt : ℝ) : EReal)) * dec (ValueIdx.ix2 n l) := by
    intro g hg
    subst hg
    pointwise
    rfl
  unfold scales
  rw [interleaveRows_apply]
  split
  · refine key _ ?_
    funext a
    match a with
    | ⟨0, _⟩ => rfl
    | ⟨1, _⟩ => exact Fin.ext (show q.val / 2 = 0 by omega)
    | ⟨2, _⟩ => rfl
  · refine key _ ?_
    funext a
    match a with
    | ⟨0, _⟩ => rfl
    | ⟨1, _⟩ => exact Fin.ext (show q.val / 2 = 0 by omega)
    | ⟨2, _⟩ => rfl

/-- The scale of sub-block `r % 16` of super-block `r / 16` and output `o`. -/
def scaleVal (sc : Vec Ideal S14x16x512 .i8) (d : Vec Ideal S14x512 .i16) (n : Fin 14) (u : Fin 16) (o : Fin 512) : EReal :=
  ((((sc (ValueIdx.ix3 n u o) : BitVec 8).toInt : ℝ) : EReal)) * (Ideal.ofBits .f16 (d (ValueIdx.ix2 n o)) * ((1 / 4 : ℝ) : EReal))

/-- What the filled scratch holds. -/
def filled (sc : Vec Ideal S14x16x512 .i8) (d : Vec Ideal S14x512 .i16) : S224x2x512.Idx → Elt Ideal .bf16 := fun y =>
  scaleVal sc d ⟨(y 0).val / 16, by have h : (y 0).val < 224 := (y 0).isLt; omega⟩ ⟨(y 0).val % 16, by omega⟩ (y 2)

/-- Each store writes, at each of its indices, what the filled scratch holds there. -/
theorem piece_apply (arg4 : Memref sig .tc .vmem S14x16x512 .i8) (harg4 : arg4.IsWhole) (arg5 : Memref sig .tc .vmem S14x512 .i16)
    (harg5 : arg5.IsWhole) (sc : Vec Ideal S14x16x512 .i8) (d : Vec Ideal S14x512 .i16) (n : Fin 14) (c : Fin 4)
    (x : (piece (F := Ideal) arg4 harg4 arg5 harg5 sc d n c).fst.shape.Idx) :
    (piece (F := Ideal) arg4 harg4 arg5 harg5 sc d n c).snd x = filled sc d ((piece (F := Ideal) arg4 harg4 arg5 harg5 sc d n c).fst.emb x) := by
  obtain ⟨u, q, l, rfl⟩ : ∃ (u : Fin 16) (q : Fin 2) (l : Fin 128), x = ValueIdx.ix3 u q l := ⟨x 0, x 1, x 2, by
    funext a
    match a with
    | ⟨0, _⟩ => rfl
    | ⟨1, _⟩ => rfl
    | ⟨2, _⟩ => rfl⟩
  refine (scales_apply n _ _ u q l).trans ?_
  rw [k0_pay340_apply, harg4.readAt_unread, harg5.readAt_unread, dec16_eq]
  show _ * (Ideal.ofBits .f16 _ * Ideal.ofBits .f32 0x3E800000#32) = _
  rw [quarter]
  have h0 : (((piece (F := Ideal) arg4 harg4 arg5 harg5 sc d n c).fst.emb (ValueIdx.ix3 u q l)) 0).val = 16 * n.val + 1 * u.val := rfl
  have h2 : (((piece (F := Ideal) arg4 harg4 arg5 harg5 sc d n c).fst.emb (ValueIdx.ix3 u q l)) 2).val = 128 * c.val + 1 * l.val := rfl
  generalize (piece (F := Ideal) arg4 harg4 arg5 harg5 sc d n c).fst.emb (ValueIdx.ix3 u q l) = y at h0 h2
  have hy0 : (y 0).val < 224 := (y 0).isLt
  have e1 : (Rect.unit (s := S14x16x512) ![n.val, 0, 128 * c.val] S1x16x128.size (inb_scale n c)).toLoadRect.idx (ValueIdx.ix3 0 u l)
      = ValueIdx.ix3 (⟨(y 0).val / 16, by omega⟩ : Fin 14) (⟨(y 0).val % 16, by omega⟩ : Fin 16) (y 2) := by
    funext a
    match a with
    | ⟨0, _⟩ => exact Fin.ext (show n.val + 1 * 0 = (y 0).val / 16 by omega)
    | ⟨1, _⟩ => exact Fin.ext (show 0 + 1 * u.val = (y 0).val % 16 by omega)
    | ⟨2, _⟩ => exact Fin.ext (show 128 * c.val + 1 * l.val = (y 2).val by omega)
  have e2 : (Rect.unit (s := S14x512) ![0, 128 * c.val] S14x128.size (inb_super c)).toLoadRect.idx (ValueIdx.ix2 n l)
      = ValueIdx.ix2 (⟨(y 0).val / 16, by omega⟩ : Fin 14) (y 2) := by
    funext a
    match a with
    | ⟨0, _⟩ => exact Fin.ext (show 0 + 1 * n.val = (y 0).val / 16 by omega)
    | ⟨1, _⟩ => exact Fin.ext (show 128 * c.val + 1 * l.val = (y 2).val by omega)
  exact congrArg₂ (fun i j => ((((sc i : BitVec 8).toInt : ℝ) : EReal)) * (Ideal.ofBits .f16 (d j) * ((1 / 4 : ℝ) : EReal))) e1 e2

/-- Every index of the scratch is stored. -/
theorem pieces_cover (arg4 : Memref sig .tc .vmem S14x16x512 .i8) (harg4 : arg4.IsWhole) (arg5 : Memref sig .tc .vmem S14x512 .i16)
    (harg5 : arg5.IsWhole) (sc : Vec Ideal S14x16x512 .i8) (d : Vec Ideal S14x512 .i16) (y : S224x2x512.Idx) :
    ∃ p ∈ pieces (F := Ideal) arg4 harg4 arg5 harg5 sc d, y ∈ p.fst.set := by
  have h0 : (y 0).val < 224 := (y 0).isLt
  have h1 : (y 1).val < 2 := (y 1).isLt
  have h2 : (y 2).val < 512 := (y 2).isLt
  refine ⟨piece arg4 harg4 arg5 harg5 sc d ⟨(y 0).val / 16, by omega⟩ ⟨(y 2).val / 128, by omega⟩, ?_, ?_⟩
  · refine List.mem_ofFn.2 ⟨⟨14 * (3 - (y 2).val / 128) + (13 - (y 0).val / 16), by omega⟩, ?_⟩
    congr 1
    · refine Fin.ext ?_
      show 13 - (14 * (3 - (y 2).val / 128) + (13 - (y 0).val / 16)) % 14 = (y 0).val / 16
      omega
    · refine Fin.ext ?_
      show 3 - (14 * (3 - (y 2).val / 128) + (13 - (y 0).val / 16)) / 14 = (y 2).val / 128
      omega
  · refine (Rect.mem_set_unit (inb := inb_store _ _)).2 fun a => ?_
    match a with
    | ⟨0, _⟩ => show 16 * ((y 0).val / 16) ≤ (y 0).val ∧ (y 0).val < 16 * ((y 0).val / 16) + 16; omega
    | ⟨1, _⟩ => show 0 ≤ (y 1).val ∧ (y 1).val < 0 + 2; omega
    | ⟨2, _⟩ => show 128 * ((y 2).val / 128) ≤ (y 2).val ∧ (y 2).val < 128 * ((y 2).val / 128) + 128; omega

/-- The filled scratch read back. -/
theorem read_filled (arg11 : Memref sig .tc .vmem S224x2x512 .bf16) (arg4 : Memref sig .tc .vmem S14x16x512 .i8) (harg4 : arg4.IsWhole)
    (arg5 : Memref sig .tc .vmem S14x512 .i16) (harg5 : arg5.IsWhole) (sc : Vec Ideal S14x16x512 .i8) (d : Vec Ideal S14x512 .i16)
    (y : S224x2x512.Idx) :
    View.read (Elt Ideal) arg11.view (arg11.view.writes (Elt Ideal) arg11.view.junk (pieces (F := Ideal) arg4 harg4 arg5 harg5 sc d)) y
      = filled sc d y := by
  refine View.read_writes_apply_of_pieces arg11.view _ (filled sc d) _ ?_ y (pieces_cover arg4 harg4 arg5 harg5 sc d y)
  intro p hp x
  obtain ⟨i, rfl⟩ := List.mem_ofFn.1 hp
  exact piece_apply arg4 harg4 arg5 harg5 sc d _ _ x

end Cert.Fill
-- ==== Proof.Trip.lean ====
/-  What one trip of each loop loads and multiplies, read at an index over the extended reals, in terms of the block arrays:
    the block of activations, and the weight of a row of the super-block at an output column. -/
module

public import proofs.«01_k».proof.Proof.Blocks
public import proofs.«01_k».proof.Proof.Fill

@[expose] public section

set_option maxRecDepth 16384

noncomputable section

namespace Cert.Trip

open Cert.KernelIdeal Cert.KernelIdeal.Gen Idealize.ShloMosaic Idealize.ShloMosaic.TcCoe Idealize.SL.Sem Cert.Weights Cert.Codes

/-- A product added to a sum, at an index. -/
theorem step_apply (acc : FVec Ideal S256x256 .f32) (x w : FVec Ideal S256x256 .bf16) (b o : Fin 256) :
    step (F := Ideal) acc x w (ValueIdx.ix2 b o)
      = acc (ValueIdx.ix2 b o) + ∑ r : Fin 256, x (ValueIdx.ix2 b r) * w (ValueIdx.ix2 r o) := by
  unfold step
  pointwise
  rfl

/-- Where a load of a rank-2 rectangle reads. -/
theorem idx2 {R C A B : Nat} (o0 o1 : Nat) {off size : Fin 2 → Nat} (hs : size = ![A, B]) (ho : off = ![o0, o1])
    (inb : ∀ a, off a + size a ≤ (⟨2, ![R, C]⟩ : Shape).size a) (r : Fin A) (l : Fin B) (hr : o0 + r.val < R) (hl : o1 + l.val < C)
    (x : (Rect.unit (s := ⟨2, ![R, C]⟩) off size inb).toLoadRect.shape.Idx) (hx0 : (x 0).val = r.val) (hx1 : (x 1).val = l.val) :
    (Rect.unit (s := ⟨2, ![R, C]⟩) off size inb).toLoadRect.idx x = ValueIdx.ix2 ⟨o0 + r.val, hr⟩ ⟨o1 + l.val, hl⟩ := by
  subst ho
  funext a
  match a with
  | ⟨0, _⟩ => exact Fin.ext (show o0 + 1 * (x 0).val = o0 + r.val by omega)
  | ⟨1, _⟩ => exact Fin.ext (show o1 + 1 * (x 1).val = o1 + l.val by omega)

/-- Where a load of a pair of scale rows reads. -/
theorem idx3 (o0 o2 : Nat) {off : Fin 3 → Nat} (ho : off = ![o0, 0, o2])
    (inb : ∀ a, off a + S1x2x128.size a ≤ S224x2x512.size a) (q : Fin 2) (l : Fin 128) (hr : o0 < 224) (hl : o2 + l.val < 512) :
    (Rect.unit (s := S224x2x512) off S1x2x128.size inb).toLoadRect.idx (ValueIdx.ix3 0 q l) = ValueIdx.ix3 ⟨o0, hr⟩ q ⟨o2 + l.val, hl⟩ := by
  subst ho
  funext a
  match a with
  | ⟨0, _⟩ => exact Fin.ext (show o0 + 1 * 0 = o0 by omega)
  | ⟨1, _⟩ => exact Fin.ext (show 0 + 1 * q.val = q.val by omega)
  | ⟨2, _⟩ => exact Fin.ext (show o2 + 1 * l.val = o2 + l.val by omega)

/-- The kernel's weight: row `128 h + 16 p + u` of super-block `n`, output `o` of the block; `e` is the scratch of scales. -/
def weight (ql : S1792x512.Idx → BitVec 8) (qh : S896x512.Idx → BitVec 8) (e : S224x2x512.Idx → EReal) (n : Fin 14) (h : Fin 2)
    (p : Fin 8) (u : Fin 16) (o : Fin 512) : EReal :=
  (((4 * code (ql (ValueIdx.ix2 ⟨128 * n.val + 64 * h.val + (16 * (p.val % 2) + u.val), by omega⟩ o))
      (ql (ValueIdx.ix2 ⟨128 * n.val + 64 * h.val + 32 + (16 * (p.val % 2) + u.val), by omega⟩ o))
      (qh (ValueIdx.ix2 ⟨64 * n.val + 32 * h.val + (16 * (p.val % 2) + u.val), by omega⟩ o)) ⟨p.val / 2, by omega⟩ : Int) : ℝ) : EReal)
    * e (ValueIdx.ix3 ⟨16 * n.val + 8 * h.val + p.val, by omega⟩ ⟨u.val % 2, by omega⟩ o)

/-! ## Loop 1: output columns 0 to 255 -/

/-- The loop of the left half makes fourteen trips. -/
theorem trips1 : k0_t1_loop.trips = 14 := by decide +kernel

/-- The first thirty-two rows of low bits that a trip of the left half's loop loads, as entries of the block. -/
theorem rowsA1_apply (arg : Memref sig .tc .vmem S1792x512 .i8) (X : BufTy.Contents (Elt Ideal) arg.view.ty)
    (k : Fin k0_t1_loop.trips) (n : Fin 14) (hn : k.val = n.val) (c h : Fin 2) (r : Fin 32) (l : Fin 128) :
    rowsA1 (F := Ideal) arg X k c h (ValueIdx.ix2 r l)
      = View.read (Elt Ideal) arg.view X (ValueIdx.ix2 ⟨128 * n.val + 64 * h.val + r.val, by omega⟩ ⟨0 + 128 * c.val + l.val, by omega⟩) := by
  have e0 := idx2 (R := 1792) (C := 512) (A := 32) (B := 128) (128 * n.val + 64 * h.val) 0 rfl ((k0_off2_eq k h).trans (by rw [hn]))
    (k0_off2_inb k h) r l (by omega) (by omega) (ValueIdx.ix2 r l) rfl rfl
  have e1 := idx2 (R := 1792) (C := 512) (A := 32) (B := 128) (128 * n.val + 64 * h.val) 128 rfl ((k0_off6_eq k h).trans (by rw [hn]))
    (k0_off6_inb k h) r l (by omega) (by omega) (ValueIdx.ix2 r l) rfl rfl
  match c with
  | ⟨0, _⟩ => exact congrArg (View.read (Elt Ideal) arg.view X) e0
  | ⟨1, _⟩ => exact congrArg (View.read (Elt Ideal) arg.view X) e1

/-- The last thirty-two rows of low bits that a trip of the left half's loop loads, as entries of the block. -/
theorem rowsB1_apply (arg : Memref sig .tc .vmem S1792x512 .i8) (X : BufTy.Contents (Elt Ideal) arg.view.ty)
    (k : Fin k0_t1_loop.trips) (n : Fin 14) (hn : k.val = n.val) (c h : Fin 2) (r : Fin 32) (l : Fin 128) :
    rowsB1 (F := Ideal) arg X k c h (ValueIdx.ix2 r l)
      = View.read (Elt Ideal) arg.view X (ValueIdx.ix2 ⟨128 * n.val + 64 * h.val + 32 + r.val, by omega⟩ ⟨0 + 128 * c.val + l.val, by omega⟩) := by
  have e0 := idx2 (R := 1792) (C := 512) (A := 32) (B := 128) (128 * n.val + 64 * h.val + 32) 0 rfl ((k0_off3_eq k h).trans (by rw [hn]))
    (k0_off3_inb k h) r l (by omega) (by omega) (ValueIdx.ix2 r l) rfl rfl
  have e1 := idx2 (R := 1792) (C := 512) (A := 32) (B := 128) (128 * n.val + 64 * h.val + 32) 128 rfl ((k0_off7_eq k h).trans (by rw [hn]))
    (k0_off7_inb k h) r l (by omega) (by omega) (ValueIdx.ix2 r l) rfl rfl
  match c with
  | ⟨0, _⟩ => exact congrArg (View.read (Elt Ideal) arg.view X) e0
  | ⟨1, _⟩ => exact congrArg (View.read (Elt Ideal) arg.view X) e1

/-- The rows of high bits that a trip of the left half's loop loads, as entries of the block. -/
theorem rowsQ1_apply (arg : Memref sig .tc .vmem S896x512 .i8) (X : BufTy.Contents (Elt Ideal) arg.view.ty)
    (k : Fin k0_t1_loop.trips) (n : Fin 14) (hn : k.val = n.val) (c h : Fin 2) (r : Fin 32) (l : Fin 128) :
    rowsQ1 (F := Ideal) arg X k c h (ValueIdx.ix2 r l)
      = View.read (Elt Ideal) arg.view X (ValueIdx.ix2 ⟨64 * n.val + 32 * h.val + r.val, by omega⟩ ⟨0 + 128 * c.val + l.val, by omega⟩) := by
  have e0 := idx2 (R := 896) (C := 512) (A := 32) (B := 128) (64 * n.val + 32 * h.val) 0 rfl ((k0_off4_eq k h).trans (by rw [hn]))
    (k0_off4_inb k h) r l (by omega) (by omega) (ValueIdx.ix2 r l) rfl rfl
  have e1 := idx2 (R := 896) (C := 512) (A := 32) (B := 128) (64 * n.val + 32 * h.val) 128 rfl ((k0_off8_eq k h).trans (by rw [hn]))
    (k0_off8_inb k h) r l (by omega) (by omega) (ValueIdx.ix2 r l) rfl rfl
  match c with
  | ⟨0, _⟩ => exact congrArg (View.read (Elt Ideal) arg.view X) e0
  | ⟨1, _⟩ => exact congrArg (View.read (Elt Ideal) arg.view X) e1

/-- The scale row that a trip of the left half's loop loads, as entries of the block. -/
theorem rowsE1_apply (arg : Memref sig .tc .vmem S224x2x512 .bf16) (X : BufTy.Contents (Elt Ideal) arg.view.ty)
    (k : Fin k0_t1_loop.trips) (n : Fin 14) (hn : k.val = n.val) (c h : Fin 2) (p : Fin 8) (q : Fin 2) (l : Fin 128) :
    rowsE1 (F := Ideal) arg X k c h p (ValueIdx.ix3 0 q l)
      = View.read (Elt Ideal) arg.view X (ValueIdx.ix3 ⟨16 * n.val + 8 * h.val + p.val, by omega⟩ q ⟨0 + 128 * c.val + l.val, by omega⟩) := by
  have hp : 16 * k.val + 8 * h.val + 2 * (p.val / 2) + p.val % 2 = 16 * n.val + 8 * h.val + p.val := by omega
  have e0 := idx3 (16 * n.val + 8 * h.val + p.val) 0 ((k0_off5_eq k h ⟨p.val / 2, by omega⟩ ⟨p.val % 2, by omega⟩).trans (by rw [← hp]))
    (k0_off5_inb k h ⟨p.val / 2, by omega⟩ ⟨p.val % 2, by omega⟩) q l (by omega) (by omega)
  have e1 := idx3 (16 * n.val + 8 * h.val + p.val) 128 ((k0_off9_eq k h ⟨p.val / 2, by omega⟩ ⟨p.val % 2, by omega⟩).trans (by rw [← hp]))
    (k0_off9_inb k h ⟨p.val / 2, by omega⟩ ⟨p.val % 2, by omega⟩) q l (by omega) (by omega)
  match c with
  | ⟨0, _⟩ => exact congrArg (View.read (Elt Ideal) arg.view X) e0
  | ⟨1, _⟩ => exact congrArg (View.read (Elt Ideal) arg.view X) e1

/-- The activations that a trip of the left half's loop loads, as entries of the block. -/
theorem acts1_apply (arg : Memref sig .tc .vmem S256x3584 .bf16) (X : BufTy.Contents (Elt Ideal) arg.view.ty)
    (k : Fin k0_t1_loop.trips) (n : Fin 14) (hn : k.val = n.val) (b r : Fin 256) :
    acts1 (F := Ideal) arg X k (ValueIdx.ix2 b r)
      = View.read (Elt Ideal) arg.view X (ValueIdx.ix2 b ⟨256 * n.val + r.val, by omega⟩) := by
  have e0 := idx2 (R := 256) (C := 3584) (A := 256) (B := 256) 0 (256 * n.val) rfl ((k0_off1_eq k).trans (by rw [hn]))
    (k0_off1_inb k) b r (by omega) (by omega) (ValueIdx.ix2 b r) rfl rfl
  unfold acts1
  refine (congrFun (shapeCast_self (s := S256x256) (View.readAt (Elt Ideal) arg.view
    (Rect.unit (s := S256x3584) (k0_off1 k) S256x256.size (k0_off1_inb k)).toLoadRect X) shapeCasts_S256x256_S256x256)
    (ValueIdx.ix2 b r)).trans ?_
  refine (congrArg (View.read (Elt Ideal) arg.view X) e0).trans ?_
  congr 2
  exact Fin.ext (Nat.zero_add _)

/-- The weights of trip `n` of loop 1. -/
theorem matrix1_apply (argL : Memref sig .tc .vmem S1792x512 .i8) (XL : BufTy.Contents (Elt Ideal) argL.view.ty)
    (argH : Memref sig .tc .vmem S896x512 .i8) (XH : BufTy.Contents (Elt Ideal) argH.view.ty)
    (argE : Memref sig .tc .vmem S224x2x512 .bf16) (XE : BufTy.Contents (Elt Ideal) argE.view.ty)
    (k : Fin k0_t1_loop.trips) (n : Fin 14) (hn : k.val = n.val) (h : Fin 2) (p : Fin 8) (u : Fin 16) (o : Fin 256) :
    matrix (F := Ideal) (rowsA1 argL XL k) (rowsB1 argL XL k) (rowsQ1 argH XH k) (rowsE1 argE XE k)
        (ValueIdx.ix2 ⟨128 * h.val + (16 * p.val + u.val), by omega⟩ o)
      = weight (View.read (Elt Ideal) argL.view XL) (View.read (Elt Ideal) argH.view XH) (View.read (Elt Ideal) argE.view XE)
          n h p u ⟨0 + o.val, by omega⟩ := by
  have ho : o = ⟨128 * (⟨o.val / 128, by omega⟩ : Fin 2).val + (⟨o.val % 128, by omega⟩ : Fin 128).val,
      by show 128 * (o.val / 128) + o.val % 128 < 256; omega⟩ := Fin.ext (by show o.val = 128 * (o.val / 128) + o.val % 128; omega)
  have ho' : (⟨0 + 128 * (o.val / 128) + o.val % 128, by omega⟩ : Fin 512) = ⟨0 + o.val, by omega⟩ :=
    Fin.ext (by show 0 + 128 * (o.val / 128) + o.val % 128 = 0 + o.val; omega)
  have key := Cert.Blocks.matrix_apply (rowsA1 argL XL k) (rowsB1 argL XL k) (rowsQ1 argH XH k) (rowsE1 argE XE k)
    ⟨o.val / 128, by omega⟩ h p u ⟨o.val % 128, by omega⟩
  rw [rowsA1_apply argL XL k n hn, rowsB1_apply argL XL k n hn, rowsQ1_apply argH XH k n hn,
    rowsE1_apply argE XE k n hn] at key
  simp only [ho'] at key
  exact (congrArg (fun o => matrix (F := Ideal) (rowsA1 argL XL k) (rowsB1 argL XL k) (rowsQ1 argH XH k) (rowsE1 argE XE k)
    (ValueIdx.ix2 ⟨128 * h.val + (16 * p.val + u.val), by omega⟩ o)) ho).trans key

/-! ## Loop 2: output columns 256 to 511 -/

/-- The loop of the right half makes fourteen trips. -/
theorem trips2 : k0_t2_loop.trips = 14 := by decide +kernel

/-- The first thirty-two rows of low bits that a trip of the right half's loop loads, as entries of the block. -/
theorem rowsA2_apply (arg : Memref sig .tc .vmem S1792x512 .i8) (X : BufTy.Contents (Elt Ideal) arg.view.ty)
    (k : Fin k0_t2_loop.trips) (n : Fin 14) (hn : k.val = n.val) (c h : Fin 2) (r : Fin 32) (l : Fin 128) :
    rowsA2 (F := Ideal) arg X k c h (ValueIdx.ix2 r l)
      = View.read (Elt Ideal) arg.view X (ValueIdx.ix2 ⟨128 * n.val + 64 * h.val + r.val, by omega⟩ ⟨256 + 128 * c.val + l.val, by omega⟩) := by
  have e0 := idx2 (R := 1792) (C := 512) (A := 32) (B := 128) (128 * n.val + 64 * h.val) 256 rfl ((k0_off11_eq k h).trans (by rw [hn]))
    (k0_off11_inb k h) r l (by omega) (by omega) (ValueIdx.ix2 r l) rfl rfl
  have e1 := idx2 (R := 1792) (C := 512) (A := 32) (B := 128) (128 * n.val + 64 * h.val) 384 rfl ((k0_off15_eq k h).trans (by rw [hn]))
    (k0_off15_inb k h) r l (by omega) (by omega) (ValueIdx.ix2 r l) rfl rfl
  match c with
  | ⟨0, _⟩ => exact congrArg (View.read (Elt Ideal) arg.view X) e0
  | ⟨1, _⟩ => exact congrArg (View.read (Elt Ideal) arg.view X) e1

/-- The last thirty-two rows of low bits that a trip of the right half's loop loads, as entries of the block. -/
theorem rowsB2_apply (arg : Memref sig .tc .vmem S1792x512 .i8) (X : BufTy.Contents (Elt Ideal) arg.view.ty)
    (k : Fin k0_t2_loop.trips) (n : Fin 14) (hn : k.val = n.val) (c h : Fin 2) (r : Fin 32) (l : Fin 128) :
    rowsB2 (F := Ideal) arg X k c h (ValueIdx.ix2 r l)
      = View.read (Elt Ideal) arg.view X (ValueIdx.ix2 ⟨128 * n.val + 64 * h.val + 32 + r.val, by omega⟩ ⟨256 + 128 * c.val + l.val, by omega⟩) := by
  have e0 := idx2 (R := 1792) (C := 512) (A := 32) (B := 128) (128 * n.val + 64 * h.val + 32) 256 rfl ((k0_off12_eq k h).trans (by rw [hn]))
    (k0_off12_inb k h) r l (by omega) (by omega) (ValueIdx.ix2 r l) rfl rfl
  have e1 := idx2 (R := 1792) (C := 512) (A := 32) (B := 128) (128 * n.val + 64 * h.val + 32) 384 rfl ((k0_off16_eq k h).trans (by rw [hn]))
    (k0_off16_inb k h) r l (by omega) (by omega) (ValueIdx.ix2 r l) rfl rfl
  match c with
  | ⟨0, _⟩ => exact congrArg (View.read (Elt Ideal) arg.view X) e0
  | ⟨1, _⟩ => exact congrArg (View.read (Elt Ideal) arg.view X) e1

/-- The rows of high bits that a trip of the right half's loop loads, as entries of the block. -/
theorem rowsQ2_apply (arg : Memref sig .tc .vmem S896x512 .i8) (X : BufTy.Contents (Elt Ideal) arg.view.ty)
    (k : Fin k0_t2_loop.trips) (n : Fin 14) (hn : k.val = n.val) (c h : Fin 2) (r : Fin 32) (l : Fin 128) :
    rowsQ2 (F := Ideal) arg X k c h (ValueIdx.ix2 r l)
      = View.read (Elt Ideal) arg.view X (ValueIdx.ix2 ⟨64 * n.val + 32 * h.val + r.val, by omega⟩ ⟨256 + 128 * c.val + l.val, by omega⟩) := by
  have e0 := idx2 (R := 896) (C := 512) (A := 32) (B := 128) (64 * n.val + 32 * h.val) 256 rfl ((k0_off13_eq k h).trans (by rw [hn]))
    (k0_off13_inb k h) r l (by omega) (by omega) (ValueIdx.ix2 r l) rfl rfl
  have e1 := idx2 (R := 896) (C := 512) (A := 32) (B := 128) (64 * n.val + 32 * h.val) 384 rfl ((k0_off17_eq k h).trans (by rw [hn]))
    (k0_off17_inb k h) r l (by omega) (by omega) (ValueIdx.ix2 r l) rfl rfl
  match c with
  | ⟨0, _⟩ => exact congrArg (View.read (Elt Ideal) arg.view X) e0
  | ⟨1, _⟩ => exact congrArg (View.read (Elt Ideal) arg.view X) e1

/-- The scale row that a trip of the right half's loop loads, as entries of the block. -/
theorem rowsE2_apply (arg : Memref sig .tc .vmem S224x2x512 .bf16) (X : BufTy.Contents (Elt Ideal) arg.view.ty)
    (k : Fin k0_t2_loop.trips) (n : Fin 14) (hn : k.val = n.val) (c h : Fin 2) (p : Fin 8) (q : Fin 2) (l : Fin 128) :
    rowsE2 (F := Ideal) arg X k c h p (ValueIdx.ix3 0 q l)
      = View.read (Elt Ideal) arg.view X (ValueIdx.ix3 ⟨16 * n.val + 8 * h.val + p.val, by omega⟩ q ⟨256 + 128 * c.val + l.val, by omega⟩) := by
  have hp : 16 * k.val + 8 * h.val + 2 * (p.val / 2) + p.val % 2 = 16 * n.val + 8 * h.val + p.val := by omega
  have e0 := idx3 (16 * n.val + 8 * h.val + p.val) 256 ((k0_off14_eq k h ⟨p.val / 2, by omega⟩ ⟨p.val % 2, by omega⟩).trans (by rw [← hp]))
    (k0_off14_inb k h ⟨p.val / 2, by omega⟩ ⟨p.val % 2, by omega⟩) q l (by omega) (by omega)
  have e1 := idx3 (16 * n.val + 8 * h.val + p.val) 384 ((k0_off18_eq k h ⟨p.val / 2, by omega⟩ ⟨p.val % 2, by omega⟩).trans (by rw [← hp]))
    (k0_off18_inb k h ⟨p.val / 2, by omega⟩ ⟨p.val % 2, by omega⟩) q l (by omega) (by omega)
  match c with
  | ⟨0, _⟩ => exact congrArg (View.read (Elt Ideal) arg.view X) e0
  | ⟨1, _⟩ => exact congrArg (View.read (Elt Ideal) arg.view X) e1

/-- The activations that a trip of the right half's loop loads, as entries of the block. -/
theorem acts2_apply (arg : Memref sig .tc .vmem S256x3584 .bf16) (X : BufTy.Contents (Elt Ideal) arg.view.ty)
    (k : Fin k0_t2_loop.trips) (n : Fin 14) (hn : k.val = n.val) (b r : Fin 256) :
    acts2 (F := Ideal) arg X k (ValueIdx.ix2 b r)
      = View.read (Elt Ideal) arg.view X (ValueIdx.ix2 b ⟨256 * n.val + r.val, by omega⟩) := by
  have e0 := idx2 (R := 256) (C := 3584) (A := 256) (B := 256) 0 (256 * n.val) rfl ((k0_off10_eq k).trans (by rw [hn]))
    (k0_off10_inb k) b r (by omega) (by omega) (ValueIdx.ix2 b r) rfl rfl
  unfold acts2
  refine (congrFun (shapeCast_self (s := S256x256) (View.readAt (Elt Ideal) arg.view
    (Rect.unit (s := S256x3584) (k0_off10 k) S256x256.size (k0_off10_inb k)).toLoadRect X) shapeCasts_S256x256_S256x256)
    (ValueIdx.ix2 b r)).trans ?_
  refine (congrArg (View.read (Elt Ideal) arg.view X) e0).trans ?_
  congr 2
  exact Fin.ext (Nat.zero_add _)

/-- The weights of trip `n` of loop 2. -/
theorem matrix2_apply (argL : Memref sig .tc .vmem S1792x512 .i8) (XL : BufTy.Contents (Elt Ideal) argL.view.ty)
    (argH : Memref sig .tc .vmem S896x512 .i8) (XH : BufTy.Contents (Elt Ideal) argH.view.ty)
    (argE : Memref sig .tc .vmem S224x2x512 .bf16) (XE : BufTy.Contents (Elt Ideal) argE.view.ty)
    (k : Fin k0_t2_loop.trips) (n : Fin 14) (hn : k.val = n.val) (h : Fin 2) (p : Fin 8) (u : Fin 16) (o : Fin 256) :
    matrix (F := Ideal) (rowsA2 argL XL k) (rowsB2 argL XL k) (rowsQ2 argH XH k) (rowsE2 argE XE k)
        (ValueIdx.ix2 ⟨128 * h.val + (16 * p.val + u.val), by omega⟩ o)
      = weight (View.read (Elt Ideal) argL.view XL) (View.read (Elt Ideal) argH.view XH) (View.read (Elt Ideal) argE.view XE)
          n h p u ⟨256 + o.val, by omega⟩ := by
  have ho : o = ⟨128 * (⟨o.val / 128, by omega⟩ : Fin 2).val + (⟨o.val % 128, by omega⟩ : Fin 128).val,
      by show 128 * (o.val / 128) + o.val % 128 < 256; omega⟩ := Fin.ext (by show o.val = 128 * (o.val / 128) + o.val % 128; omega)
  have ho' : (⟨256 + 128 * (o.val / 128) + o.val % 128, by omega⟩ : Fin 512) = ⟨256 + o.val, by omega⟩ :=
    Fin.ext (by show 256 + 128 * (o.val / 128) + o.val % 128 = 256 + o.val; omega)
  have key := Cert.Blocks.matrix_apply (rowsA2 argL XL k) (rowsB2 argL XL k) (rowsQ2 argH XH k) (rowsE2 argE XE k)
    ⟨o.val / 128, by omega⟩ h p u ⟨o.val % 128, by omega⟩
  rw [rowsA2_apply argL XL k n hn, rowsB2_apply argL XL k n hn, rowsQ2_apply argH XH k n hn,
    rowsE2_apply argE XE k n hn] at key
  simp only [ho'] at key
  exact (congrArg (fun o => matrix (F := Ideal) (rowsA2 argL XL k) (rowsB2 argL XL k) (rowsQ2 argH XH k) (rowsE2 argE XE k)
    (ValueIdx.ix2 ⟨128 * h.val + (16 * p.val + u.val), by omega⟩ o)) ho).trans key

end Cert.Trip
-- ==== Proof.Sums.lean ====
/-  The two sums a loop of the kernel carries, after its last trip: over all 3584 columns, the products of an activation and a
    weight, for the gate and for the up projection. -/
module

public import proofs.«01_k».proof.Proof.Trip

@[expose] public section

set_option maxRecDepth 16384

noncomputable section

namespace Cert.Sums

open Cert.KernelIdeal Cert.KernelIdeal.Gen Idealize.ShloMosaic Idealize.ShloMosaic.TcCoe Idealize.SL.Sem Cert.Weights Cert.Codes Cert.Trip

/-- The kernel's weight of column `k` at output `o` of the block. -/
def weightAt (ql : S1792x512.Idx → BitVec 8) (qh : S896x512.Idx → BitVec 8) (e : S224x2x512.Idx → EReal) (k : Fin 3584)
    (o : Fin 512) : EReal :=
  weight ql qh e ⟨k.val / 256, by omega⟩ ⟨k.val % 256 / 128, by omega⟩ ⟨k.val % 128 / 16, by omega⟩ ⟨k.val % 16, by omega⟩ o

/-- The part of the sum over the columns that super-block `n` holds. -/
def part (x : S256x3584.Idx → EReal) (ql : S1792x512.Idx → BitVec 8) (qh : S896x512.Idx → BitVec 8) (e : S224x2x512.Idx → EReal)
    (b : Fin 256) (o : Fin 512) (n : Fin 14) : EReal :=
  ∑ r : Fin 256, x (ValueIdx.ix2 b ⟨256 * n.val + r.val, by omega⟩) * weightAt ql qh e ⟨256 * n.val + r.val, by omega⟩ o

/-- The sum over the super-blocks is the sum over the columns. -/
theorem sum_part (x : S256x3584.Idx → EReal) (ql : S1792x512.Idx → BitVec 8) (qh : S896x512.Idx → BitVec 8)
    (e : S224x2x512.Idx → EReal) (b : Fin 256) (o : Fin 512) :
    ∑ n : Fin 14, part x ql qh e b o n = ∑ k : Fin 3584, x (ValueIdx.ix2 b k) * weightAt ql qh e k o := by
  rw [Fin.sum_univ_tiles 14 256 rfl]
  refine Finset.sum_congr rfl fun n _ => Finset.sum_congr rfl fun r _ => ?_
  have hk : ∀ h h', (⟨256 * n.val + r.val, h⟩ : Fin 3584) = ⟨n.val * 256 + r.val, h'⟩ := fun _ _ => Fin.ext (by
    show 256 * n.val + r.val = n.val * 256 + r.val; omega)
  rw [hk _ (by omega)]

/-- A sequence that starts at zero and adds `f n` at step `n` is the sum of `f` after the last step. -/
theorem fold_eq (s : Nat → EReal) (f : Fin 14 → EReal) (h0 : s 0 = 0) (hs : ∀ n : Fin 14, s (n.val + 1) = s n.val + f n) :
    s 14 = ∑ n : Fin 14, f n := by
  have key : ∀ m : Nat, (hm : m ≤ 14) → s m = ∑ n : Fin m, f ⟨n.val, by omega⟩ := by
    intro m
    induction m with
    | zero => intro _; rw [h0]; rfl
    | succ m ih =>
      intro hm
      rw [hs ⟨m, by omega⟩, ih (by omega), Fin.sum_univ_castSucc]
      rfl
  exact key 14 (le_refl _)

variable (𝒱 : Variants) (c : Dev nD) (bd : Option 𝒱.V) (i : grid0.Coords) (arg1 : Memref sig .tc .vmem S256x3584 .bf16) (harg1 : arg1.IsWhole) (arg2 : Memref sig .tc .vmem S1792x512 .i8) (harg2 : arg2.IsWhole) (arg3 : Memref sig .tc .vmem S896x512 .i8) (harg3 : arg3.IsWhole) (arg4 : Memref sig .tc .vmem S14x16x512 .i8) (harg4 : arg4.IsWhole) (arg5 : Memref sig .tc .vmem S14x512 .i16) (harg5 : arg5.IsWhole) (arg6 : Memref sig .tc .vmem S1792x512 .i8) (harg6 : arg6.IsWhole) (arg7 : Memref sig .tc .vmem S896x512 .i8) (harg7 : arg7.IsWhole) (arg8 : Memref sig .tc .vmem S14x16x512 .i8) (harg8 : arg8.IsWhole) (arg9 : Memref sig .tc .vmem S14x512 .i16) (harg9 : arg9.IsWhole) (arg10 : Memref sig .tc .vmem S256x512 .bf16) (harg10 : arg10.IsWhole) (arg11 : Memref sig .tc .vmem S224x2x512 .bf16) (harg11 : arg11.IsWhole) (arg12 : Memref sig .tc .vmem S224x2x512 .bf16) (harg12 : arg12.IsWhole) (X_arg1 : BufTy.Contents (Elt Ideal) arg1.view.ty) (X_arg2 : BufTy.Contents (Elt Ideal) arg2.view.ty) (X_arg3 : BufTy.Contents (Elt Ideal) arg3.view.ty) (X_arg6 : BufTy.Contents (Elt Ideal) arg6.view.ty) (X_arg7 : BufTy.Contents (Elt Ideal) arg7.view.ty) (X_arg11 : BufTy.Contents (Elt Ideal) arg11.view.ty) (X_arg12 : BufTy.Contents (Elt Ideal) arg12.view.ty)

/-! ## Loop 1 -/

/-- One step of the gate sum of loop 1. -/
theorem step1_1 (k : Fin k0_t1_loop.trips) (n : Fin 14) (hn : k.val = n.val) (acc : FVec Ideal S256x256 .f32) (b o : Fin 256) :
    step (F := Ideal) acc (acts1 arg1 X_arg1 k)
        (matrix (rowsA1 arg2 X_arg2 k) (rowsB1 arg2 X_arg2 k) (rowsQ1 arg3 X_arg3 k) (rowsE1 arg11 X_arg11 k)) (ValueIdx.ix2 b o)
      = acc (ValueIdx.ix2 b o) + part (View.read (Elt Ideal) arg1.view X_arg1) (View.read (Elt Ideal) arg2.view X_arg2)
          (View.read (Elt Ideal) arg3.view X_arg3) (View.read (Elt Ideal) arg11.view X_arg11) b ⟨0 + o.val, by omega⟩ n := by
  rw [step_apply]
  unfold part
  refine congrArg (acc (ValueIdx.ix2 b o) + ·) (Finset.sum_congr rfl fun r _ => ?_)
  rw [acts1_apply arg1 X_arg1 k n hn]
  refine congrArg (View.read (Elt Ideal) arg1.view X_arg1 (ValueIdx.ix2 b ⟨256 * n.val + r.val, by omega⟩) * ·) ?_
  refine Eq.trans ?_ ((matrix1_apply arg2 X_arg2 arg3 X_arg3 arg11 X_arg11 k n hn ⟨r.val / 128, by omega⟩
    ⟨r.val % 128 / 16, by omega⟩ ⟨r.val % 16, by omega⟩ o).trans ?_)
  · refine congrArg (fun r => matrix (F := Ideal) (rowsA1 arg2 X_arg2 k) (rowsB1 arg2 X_arg2 k) (rowsQ1 arg3 X_arg3 k)
      (rowsE1 arg11 X_arg11 k) (ValueIdx.ix2 r o)) (Fin.ext ?_)
    show r.val = 128 * (r.val / 128) + (16 * (r.val % 128 / 16) + r.val % 16)
    omega
  · unfold weightAt
    congr 1 <;> refine Fin.ext ?_ <;> dsimp only <;> omega

/-- One step of the up sum of loop 1. -/
theorem step1_2 (k : Fin k0_t1_loop.trips) (n : Fin 14) (hn : k.val = n.val) (acc : FVec Ideal S256x256 .f32) (b o : Fin 256) :
    step (F := Ideal) acc (acts1 arg1 X_arg1 k)
        (matrix (rowsA1 arg6 X_arg6 k) (rowsB1 arg6 X_arg6 k) (rowsQ1 arg7 X_arg7 k) (rowsE1 arg12 X_arg12 k)) (ValueIdx.ix2 b o)
      = acc (ValueIdx.ix2 b o) + part (View.read (Elt Ideal) arg1.view X_arg1) (View.read (Elt Ideal) arg6.view X_arg6)
          (View.read (Elt Ideal) arg7.view X_arg7) (View.read (Elt Ideal) arg12.view X_arg12) b ⟨0 + o.val, by omega⟩ n := by
  rw [step_apply]
  unfold part
  refine congrArg (acc (ValueIdx.ix2 b o) + ·) (Finset.sum_congr rfl fun r _ => ?_)
  rw [acts1_apply arg1 X_arg1 k n hn]
  refine congrArg (View.read (Elt Ideal) arg1.view X_arg1 (ValueIdx.ix2 b ⟨256 * n.val + r.val, by omega⟩) * ·) ?_
  refine Eq.trans ?_ ((matrix1_apply arg6 X_arg6 arg7 X_arg7 arg12 X_arg12 k n hn ⟨r.val / 128, by omega⟩
    ⟨r.val % 128 / 16, by omega⟩ ⟨r.val % 16, by omega⟩ o).trans ?_)
  · refine congrArg (fun r => matrix (F := Ideal) (rowsA1 arg6 X_arg6 k) (rowsB1 arg6 X_arg6 k) (rowsQ1 arg7 X_arg7 k)
      (rowsE1 arg12 X_arg12 k) (ValueIdx.ix2 r o)) (Fin.ext ?_)
    show r.val = 128 * (r.val / 128) + (16 * (r.val % 128 / 16) + r.val % 16)
    omega
  · unfold weightAt
    congr 1 <;> refine Fin.ext ?_ <;> dsimp only <;> omega

/-- The gate sum after loop 1. -/
theorem sum1_1 (v1259 : FVec Ideal S14x128 .f32) (k0_w110 : Vec Ideal S16x2x128 .bf16) (init : FVec Ideal S256x256 .f32 × FVec Ideal S256x256 .f32) (b o : Fin 256)
    (h0 : init.1 (ValueIdx.ix2 b o) = 0) :
    (st_k0_t1 (F := Ideal) 𝒱 c bd i arg1 harg1 arg2 harg2 arg3 harg3 arg4 harg4 arg5 harg5 arg6 harg6 arg7 harg7 arg8 harg8 arg9 harg9 arg10 harg10 arg11 harg11 arg12 harg12 v1259 k0_w110 X_arg1 X_arg2 X_arg3 X_arg6 X_arg7 X_arg11 X_arg12 init 14).1 (ValueIdx.ix2 b o)
      = ∑ k : Fin 3584, View.read (Elt Ideal) arg1.view X_arg1 (ValueIdx.ix2 b k)
          * weightAt (View.read (Elt Ideal) arg2.view X_arg2) (View.read (Elt Ideal) arg3.view X_arg3)
              (View.read (Elt Ideal) arg11.view X_arg11) k ⟨0 + o.val, by omega⟩ := by
  rw [← sum_part]
  refine fold_eq (fun m => (st_k0_t1 (F := Ideal) 𝒱 c bd i arg1 harg1 arg2 harg2 arg3 harg3 arg4 harg4 arg5 harg5 arg6 harg6 arg7 harg7 arg8 harg8 arg9 harg9 arg10 harg10 arg11 harg11 arg12 harg12 v1259 k0_w110 X_arg1 X_arg2 X_arg3 X_arg6 X_arg7 X_arg11 X_arg12 init m).1 (ValueIdx.ix2 b o)) _ h0 fun n => ?_
  have hk : n.val < k0_t1_loop.trips := by rw [trips1]; exact n.isLt
  have e := st_k0_t1_succ (F := Ideal) 𝒱 c bd i arg1 harg1 arg2 harg2 arg3 harg3 arg4 harg4 arg5 harg5 arg6 harg6 arg7 harg7 arg8 harg8 arg9 harg9 arg10 harg10 arg11 harg11 arg12 harg12 v1259 k0_w110 X_arg1 X_arg2 X_arg3 X_arg6 X_arg7 X_arg11 X_arg12 init ⟨n.val, hk⟩
  rw [trip1_eq] at e
  exact (congrArg (fun z => z.1 (ValueIdx.ix2 b o)) e).trans
    (step1_1 arg1 arg2 arg3 arg11 X_arg1 X_arg2 X_arg3 X_arg11 ⟨n.val, hk⟩ n rfl _ b o)

/-- The up sum after loop 1. -/
theorem sum1_2 (v1259 : FVec Ideal S14x128 .f32) (k0_w110 : Vec Ideal S16x2x128 .bf16) (init : FVec Ideal S256x256 .f32 × FVec Ideal S256x256 .f32) (b o : Fin 256)
    (h0 : init.2 (ValueIdx.ix2 b o) = 0) :
    (st_k0_t1 (F := Ideal) 𝒱 c bd i arg1 harg1 arg2 harg2 arg3 harg3 arg4 harg4 arg5 harg5 arg6 harg6 arg7 harg7 arg8 harg8 arg9 harg9 arg10 harg10 arg11 harg11 arg12 harg12 v1259 k0_w110 X_arg1 X_arg2 X_arg3 X_arg6 X_arg7 X_arg11 X_arg12 init 14).2 (ValueIdx.ix2 b o)
      = ∑ k : Fin 3584, View.read (Elt Ideal) arg1.view X_arg1 (ValueIdx.ix2 b k)
          * weightAt (View.read (Elt Ideal) arg6.view X_arg6) (View.read (Elt Ideal) arg7.view X_arg7)
              (View.read (Elt Ideal) arg12.view X_arg12) k ⟨0 + o.val, by omega⟩ := by
  rw [← sum_part]
  refine fold_eq (fun m => (st_k0_t1 (F := Ideal) 𝒱 c bd i arg1 harg1 arg2 harg2 arg3 harg3 arg4 harg4 arg5 harg5 arg6 harg6 arg7 harg7 arg8 harg8 arg9 harg9 arg10 harg10 arg11 harg11 arg12 harg12 v1259 k0_w110 X_arg1 X_arg2 X_arg3 X_arg6 X_arg7 X_arg11 X_arg12 init m).2 (ValueIdx.ix2 b o)) _ h0 fun n => ?_
  have hk : n.val < k0_t1_loop.trips := by rw [trips1]; exact n.isLt
  have e := st_k0_t1_succ (F := Ideal) 𝒱 c bd i arg1 harg1 arg2 harg2 arg3 harg3 arg4 harg4 arg5 harg5 arg6 harg6 arg7 harg7 arg8 harg8 arg9 harg9 arg10 harg10 arg11 harg11 arg12 harg12 v1259 k0_w110 X_arg1 X_arg2 X_arg3 X_arg6 X_arg7 X_arg11 X_arg12 init ⟨n.val, hk⟩
  rw [trip1_eq] at e
  exact (congrArg (fun z => z.2 (ValueIdx.ix2 b o)) e).trans
    (step1_2 arg1 arg6 arg7 arg12 X_arg1 X_arg6 X_arg7 X_arg12 ⟨n.val, hk⟩ n rfl _ b o)

/-! ## Loop 2 -/

/-- One step of the gate sum of loop 2. -/
theorem step2_1 (k : Fin k0_t2_loop.trips) (n : Fin 14) (hn : k.val = n.val) (acc : FVec Ideal S256x256 .f32) (b o : Fin 256) :
    step (F := Ideal) acc (acts2 arg1 X_arg1 k)
        (matrix (rowsA2 arg2 X_arg2 k) (rowsB2 arg2 X_arg2 k) (rowsQ2 arg3 X_arg3 k) (rowsE2 arg11 X_arg11 k)) (ValueIdx.ix2 b o)
      = acc (ValueIdx.ix2 b o) + part (View.read (Elt Ideal) arg1.view X_arg1) (View.read (Elt Ideal) arg2.view X_arg2)
          (View.read (Elt Ideal) arg3.view X_arg3) (View.read (Elt Ideal) arg11.view X_arg11) b ⟨256 + o.val, by omega⟩ n := by
  rw [step_apply]
  unfold part
  refine congrArg (acc (ValueIdx.ix2 b o) + ·) (Finset.sum_congr rfl fun r _ => ?_)
  rw [acts2_apply arg1 X_arg1 k n hn]
  refine congrArg (View.read (Elt Ideal) arg1.view X_arg1 (ValueIdx.ix2 b ⟨256 * n.val + r.val, by omega⟩) * ·) ?_
  refine Eq.trans ?_ ((matrix2_apply arg2 X_arg2 arg3 X_arg3 arg11 X_arg11 k n hn ⟨r.val / 128, by omega⟩
    ⟨r.val % 128 / 16, by omega⟩ ⟨r.val % 16, by omega⟩ o).trans ?_)
  · refine congrArg (fun r => matrix (F := Ideal) (rowsA2 arg2 X_arg2 k) (rowsB2 arg2 X_arg2 k) (rowsQ2 arg3 X_arg3 k)
      (rowsE2 arg11 X_arg11 k) (ValueIdx.ix2 r o)) (Fin.ext ?_)
    show r.val = 128 * (r.val / 128) + (16 * (r.val % 128 / 16) + r.val % 16)
    omega
  · unfold weightAt
    congr 1 <;> refine Fin.ext ?_ <;> dsimp only <;> omega

/-- One step of the up sum of loop 2. -/
theorem step2_2 (k : Fin k0_t2_loop.trips) (n : Fin 14) (hn : k.val = n.val) (acc : FVec Ideal S256x256 .f32) (b o : Fin 256) :
    step (F := Ideal) acc (acts2 arg1 X_arg1 k)
        (matrix (rowsA2 arg6 X_arg6 k) (rowsB2 arg6 X_arg6 k) (rowsQ2 arg7 X_arg7 k) (rowsE2 arg12 X_arg12 k)) (ValueIdx.ix2 b o)
      = acc (ValueIdx.ix2 b o) + part (View.read (Elt Ideal) arg1.view X_arg1) (View.read (Elt Ideal) arg6.view X_arg6)
          (View.read (Elt Ideal) arg7.view X_arg7) (View.read (Elt Ideal) arg12.view X_arg12) b ⟨256 + o.val, by omega⟩ n := by
  rw [step_apply]
  unfold part
  refine congrArg (acc (ValueIdx.ix2 b o) + ·) (Finset.sum_congr rfl fun r _ => ?_)
  rw [acts2_apply arg1 X_arg1 k n hn]
  refine congrArg (View.read (Elt Ideal) arg1.view X_arg1 (ValueIdx.ix2 b ⟨256 * n.val + r.val, by omega⟩) * ·) ?_
  refine Eq.trans ?_ ((matrix2_apply arg6 X_arg6 arg7 X_arg7 arg12 X_arg12 k n hn ⟨r.val / 128, by omega⟩
    ⟨r.val % 128 / 16, by omega⟩ ⟨r.val % 16, by omega⟩ o).trans ?_)
  · refine congrArg (fun r => matrix (F := Ideal) (rowsA2 arg6 X_arg6 k) (rowsB2 arg6 X_arg6 k) (rowsQ2 arg7 X_arg7 k)
      (rowsE2 arg12 X_arg12 k) (ValueIdx.ix2 r o)) (Fin.ext ?_)
    show r.val = 128 * (r.val / 128) + (16 * (r.val % 128 / 16) + r.val % 16)
    omega
  · unfold weightAt
    congr 1 <;> refine Fin.ext ?_ <;> dsimp only <;> omega

/-- The gate sum after loop 2. -/
theorem sum2_1 (init : FVec Ideal S256x256 .f32 × FVec Ideal S256x256 .f32) (b o : Fin 256)
    (h0 : init.1 (ValueIdx.ix2 b o) = 0) :
    (st_k0_t2 (F := Ideal) 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg6 X_arg7 X_arg11 X_arg12 init 14).1 (ValueIdx.ix2 b o)
      = ∑ k : Fin 3584, View.read (Elt Ideal) arg1.view X_arg1 (ValueIdx.ix2 b k)
          * weightAt (View.read (Elt Ideal) arg2.view X_arg2) (View.read (Elt Ideal) arg3.view X_arg3)
              (View.read (Elt Ideal) arg11.view X_arg11) k ⟨256 + o.val, by omega⟩ := by
  rw [← sum_part]
  refine fold_eq (fun m => (st_k0_t2 (F := Ideal) 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg6 X_arg7 X_arg11 X_arg12 init m).1 (ValueIdx.ix2 b o)) _ h0 fun n => ?_
  have hk : n.val < k0_t2_loop.trips := by rw [trips2]; exact n.isLt
  have e := st_k0_t2_succ (F := Ideal) 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg6 X_arg7 X_arg11 X_arg12 init ⟨n.val, hk⟩
  rw [trip2_eq] at e
  exact (congrArg (fun z => z.1 (ValueIdx.ix2 b o)) e).trans
    (step2_1 arg1 arg2 arg3 arg11 X_arg1 X_arg2 X_arg3 X_arg11 ⟨n.val, hk⟩ n rfl _ b o)

/-- The up sum after loop 2. -/
theorem sum2_2 (init : FVec Ideal S256x256 .f32 × FVec Ideal S256x256 .f32) (b o : Fin 256)
    (h0 : init.2 (ValueIdx.ix2 b o) = 0) :
    (st_k0_t2 (F := Ideal) 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg6 X_arg7 X_arg11 X_arg12 init 14).2 (ValueIdx.ix2 b o)
      = ∑ k : Fin 3584, View.read (Elt Ideal) arg1.view X_arg1 (ValueIdx.ix2 b k)
          * weightAt (View.read (Elt Ideal) arg6.view X_arg6) (View.read (Elt Ideal) arg7.view X_arg7)
              (View.read (Elt Ideal) arg12.view X_arg12) k ⟨256 + o.val, by omega⟩ := by
  rw [← sum_part]
  refine fold_eq (fun m => (st_k0_t2 (F := Ideal) 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg6 X_arg7 X_arg11 X_arg12 init m).2 (ValueIdx.ix2 b o)) _ h0 fun n => ?_
  have hk : n.val < k0_t2_loop.trips := by rw [trips2]; exact n.isLt
  have e := st_k0_t2_succ (F := Ideal) 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg6 X_arg7 X_arg11 X_arg12 init ⟨n.val, hk⟩
  rw [trip2_eq] at e
  exact (congrArg (fun z => z.2 (ValueIdx.ix2 b o)) e).trans
    (step2_2 arg1 arg6 arg7 arg12 X_arg1 X_arg6 X_arg7 X_arg12 ⟨n.val, hk⟩ n rfl _ b o)

end Cert.Sums
-- ==== Proof.Block.lean ====
/-  The block of results a grid point leaves, read at an index: the gated product of two sums over the columns. -/
module

public import proofs.«01_k».proof.Proof.Sums

@[expose] public section

set_option maxRecDepth 16384

noncomputable section

namespace Cert.Block

open Cert.KernelIdeal Cert.KernelIdeal.Gen Idealize.ShloMosaic Idealize.ShloMosaic.TcCoe Idealize.SL.Sem Cert.Sums Cert.Fill

/-- One projection of row `b` at output `o` of the block. -/
def proj (x : S256x3584.Idx → EReal) (ql : S1792x512.Idx → BitVec 8) (qh : S896x512.Idx → BitVec 8) (sc : Vec Ideal S14x16x512 .i8)
    (d : Vec Ideal S14x512 .i16) (b : Fin 256) (o : Fin 512) : EReal :=
  ∑ k : Fin 3584, x (ValueIdx.ix2 b k) * weightAt ql qh (filled sc d) k o

/-- The gated product. -/
def gated (g u : EReal) : EReal := g * Ideal.logistic g * u

/-- The block. -/
def tile (x0 : Vec Ideal S256x3584 .bf16) (x1 : Vec Ideal S1792x512 .i8) (x2 : Vec Ideal S896x512 .i8) (x3 : Vec Ideal S14x16x512 .i8) (x4 : Vec Ideal S14x512 .i16) (x5 : Vec Ideal S1792x512 .i8) (x6 : Vec Ideal S896x512 .i8) (x7 : Vec Ideal S14x16x512 .i8) (x8 : Vec Ideal S14x512 .i16) :
    S256x512.Idx → Elt Ideal .bf16 :=
  fun y => gated (proj x0 x1 x2 x3 x4 (y 0) (y 1)) (proj x0 x5 x6 x7 x8 (y 0) (y 1))

/-- The stored value of the left half of the block, at an index: the gated product of the two sums there. -/
theorem pay554_apply (g u : FVec Ideal S256x256 .f32) (j : S256x256.Idx) : k0_pay554 (F := Ideal) g u j = gated (g j) (u j) := rfl

/-- The stored value of the right half of the block, at an index: the gated product of the two sums there. -/
theorem pay558_apply (g u : FVec Ideal S256x256 .f32) (j : S256x256.Idx) :
    k0_pay1 (F := Ideal) (k0_pay558 (F := Ideal) g u) j = gated (g j) (u j) := rfl

/-- The left half's sums start at zero. -/
theorem zero1 (j : S256x256.Idx) : k0_pay551 (F := Ideal) j = 0 := by
  obtain ⟨a, b, rfl⟩ : ∃ a b, j = ValueIdx.ix2 a b := ⟨_, _, ValueIdx.eq_ix2 j⟩
  unfold k0_pay551
  pointwise

/-- The right half's sums start at zero. -/
theorem zero2 (j : S256x256.Idx) : k0_pay555 (F := Ideal) j = 0 := by
  obtain ⟨a, b, rfl⟩ : ∃ a b, j = ValueIdx.ix2 a b := ⟨_, _, ValueIdx.eq_ix2 j⟩
  unfold k0_pay555
  pointwise

/-- The loop of the left half makes fourteen trips. -/
theorem bound1 : Scf.trips k0_t1_loop.lb k0_t1_loop.ub k0_t1_loop.st = 14 := by decide +kernel

/-- The loop of the right half makes fourteen trips. -/
theorem bound2 : Scf.trips k0_t2_loop.lb k0_t2_loop.ub k0_t2_loop.st = 14 := by decide +kernel

variable (c : Dev nD) (i : grid0.Coords) (arg1 : Memref sig .tc .vmem S256x3584 .bf16) (harg1 : arg1.IsWhole) (arg2 : Memref sig .tc .vmem S1792x512 .i8) (harg2 : arg2.IsWhole) (arg3 : Memref sig .tc .vmem S896x512 .i8) (harg3 : arg3.IsWhole) (arg4 : Memref sig .tc .vmem S14x16x512 .i8) (harg4 : arg4.IsWhole) (arg5 : Memref sig .tc .vmem S14x512 .i16) (harg5 : arg5.IsWhole) (arg6 : Memref sig .tc .vmem S1792x512 .i8) (harg6 : arg6.IsWhole) (arg7 : Memref sig .tc .vmem S896x512 .i8) (harg7 : arg7.IsWhole) (arg8 : Memref sig .tc .vmem S14x16x512 .i8) (harg8 : arg8.IsWhole) (arg9 : Memref sig .tc .vmem S14x512 .i16) (harg9 : arg9.IsWhole) (arg10 : Memref sig .tc .vmem S256x512 .bf16) (harg10 : arg10.IsWhole) (arg11 : Memref sig .tc .vmem S224x2x512 .bf16) (harg11 : arg11.IsWhole) (arg12 : Memref sig .tc .vmem S224x2x512 .bf16) (harg12 : arg12.IsWhole) (x0 : Vec Ideal S256x3584 .bf16) (x1 : Vec Ideal S1792x512 .i8) (x2 : Vec Ideal S896x512 .i8) (x3 : Vec Ideal S14x16x512 .i8) (x4 : Vec Ideal S14x512 .i16) (x5 : Vec Ideal S1792x512 .i8) (x6 : Vec Ideal S896x512 .i8) (x7 : Vec Ideal S14x16x512 .i8) (x8 : Vec Ideal S14x512 .i16)

/-- The scratch of the gate's scales, as the loops read it. -/
theorem gate_scratch : View.read (Elt Ideal) arg11.view (arg11.view.writes (Elt Ideal) arg11.view.junk
    (kernelRun0_A.sl.HS0_56 (F := Ideal) c arg4 harg4 arg5 harg5 x3 x4)) = filled x3 x4 := by
  rw [gate_pieces]
  exact funext fun y => read_filled arg11 arg4 harg4 arg5 harg5 x3 x4 y

/-- The scratch of the up projection's scales, as the loops read it. -/
theorem up_scratch : View.read (Elt Ideal) arg12.view (arg12.view.writes (Elt Ideal) arg12.view.junk
    (kernelRun0_A.sl.HS1_56 (F := Ideal) c arg8 harg8 arg9 harg9 x7 x8)) = filled x7 x8 := by
  rw [up_pieces]
  exact funext fun y => read_filled arg12 arg8 harg8 arg9 harg9 x7 x8 y

/-- The first 256 columns of the block. -/
theorem left_apply (b o : Fin 256) :
    kernelRun0_A.sl.r_82 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 (ValueIdx.ix2 b o)
      = gated (proj x0 x1 x2 x3 x4 b ⟨0 + o.val, by omega⟩) (proj x0 x5 x6 x7 x8 b ⟨0 + o.val, by omega⟩) := by
  unfold kernelRun0_A.sl.r_82
  rw [pay554_apply, bound1, sum1_1 (h0 := zero1 (ValueIdx.ix2 b o)),
    sum1_2 (h0 := zero1 (ValueIdx.ix2 b o)),
    gate_scratch, up_scratch]
  simp only [Memref.IsWhole.read_unread]
  rfl

/-- The last 256 columns of the block. -/
theorem right_apply (b o : Fin 256) :
    k0_pay1 (F := Ideal) (kernelRun0_A.sl.r_83 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8) (ValueIdx.ix2 b o)
      = gated (proj x0 x1 x2 x3 x4 b ⟨256 + o.val, by omega⟩) (proj x0 x5 x6 x7 x8 b ⟨256 + o.val, by omega⟩) := by
  unfold kernelRun0_A.sl.r_83
  rw [pay558_apply, bound2, sum2_1 (h0 := zero2 (ValueIdx.ix2 b o)),
    sum2_2 (h0 := zero2 (ValueIdx.ix2 b o)),
    gate_scratch, up_scratch]
  simp only [Memref.IsWhole.read_unread]
  rfl

/-- The block at an index. -/
theorem out_apply (y : S256x512.Idx) :
    out0_A_9 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 y = tile x0 x1 x2 x3 x4 x5 x6 x7 x8 y := by
  unfold out0_A_9
  unfold kernelRun0_A
  dsimp only
  have h0 : (y 0).val < 256 := (y 0).isLt
  have h1 : (y 1).val < 512 := (y 1).isLt
  refine View.read_writes_apply_of_pieces VO0_9 _ (tile x0 x1 x2 x3 x4 x5 x6 x7 x8) _ ?_ y ?_
  · intro p hp x
    rcases List.mem_cons.1 hp with rfl | hp
    · obtain ⟨b, o, rfl⟩ : ∃ (b o : Fin 256), x = ValueIdx.ix2 b o := ⟨x 0, x 1, ValueIdx.eq_ix2 x⟩
      refine (right_apply c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 b o).trans ?_
      have e0 : ∀ h, (⟨0 + 1 * b.val, h⟩ : Fin 256) = b := fun _ => Fin.ext (by show 0 + 1 * b.val = b.val; omega)
      have e1 : ∀ h h', (⟨256 + 1 * o.val, h⟩ : Fin 512) = ⟨256 + o.val, h'⟩ := fun _ _ => Fin.ext (by show 256 + 1 * o.val = 256 + o.val; omega)
      show _ = gated (proj x0 x1 x2 x3 x4 ⟨0 + 1 * b.val, by omega⟩ ⟨256 + 1 * o.val, by omega⟩) (proj x0 x5 x6 x7 x8 ⟨0 + 1 * b.val, by omega⟩ ⟨256 + 1 * o.val, by omega⟩)
      rw [e0, e1 _ (by omega)]
    · rcases List.mem_cons.1 hp with rfl | hp
      · obtain ⟨b, o, rfl⟩ : ∃ (b o : Fin 256), x = ValueIdx.ix2 b o := ⟨x 0, x 1, ValueIdx.eq_ix2 x⟩
        refine (left_apply c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 b o).trans ?_
        have e0 : ∀ h, (⟨0 + 1 * b.val, h⟩ : Fin 256) = b := fun _ => Fin.ext (by show 0 + 1 * b.val = b.val; omega)
        have e1 : ∀ h h', (⟨0 + 1 * o.val, h⟩ : Fin 512) = ⟨0 + o.val, h'⟩ := fun _ _ => Fin.ext (by show 0 + 1 * o.val = 0 + o.val; omega)
        show _ = gated (proj x0 x1 x2 x3 x4 ⟨0 + 1 * b.val, by omega⟩ ⟨0 + 1 * o.val, by omega⟩) (proj x0 x5 x6 x7 x8 ⟨0 + 1 * b.val, by omega⟩ ⟨0 + 1 * o.val, by omega⟩)
        rw [e0, e1 _ (by omega)]
      · exact absurd hp (List.not_mem_nil)
  · by_cases h : (y 1).val < 256
    · refine ⟨_, List.mem_cons_of_mem _ List.mem_cons_self, ?_⟩
      rw [Rect.mem_set_unit (inb := inb_S256x512_S256x256_0_0)]
      intro a
      match a with
      | ⟨0, _⟩ => exact ⟨Nat.zero_le _, by show (y 0).val < 0 + 256; omega⟩
      | ⟨1, _⟩ => exact ⟨Nat.zero_le _, by show (y 1).val < 0 + 256; omega⟩
    · refine ⟨_, List.mem_cons_self, ?_⟩
      rw [Rect.mem_set_unit (inb := inb_S256x512_S256x256_0_256)]
      intro a
      match a with
      | ⟨0, _⟩ => exact ⟨Nat.zero_le _, by show (y 0).val < 0 + 256; omega⟩
      | ⟨1, _⟩ => exact ⟨by show 256 ≤ (y 1).val; omega, by show (y 1).val < 256 + 256; omega⟩

end Cert.Block
-- ==== Proof.RefWeights.lean ====
/-  The reference's weights and output as functions of its arguments, and a weight read at an index over the extended reals. -/
module

public import proofs.«01_k».proof.Proof.Codes
public import proofs.«01_k».proof.Proof.Decode
public import proofs.«01_k».proof.Proof.Gen.ReferenceIdeal.Skeleton

@[expose] public section

set_option maxRecDepth 16384

noncomputable section

namespace Cert.RefWeights

open Cert.ReferenceIdeal Cert.ReferenceIdeal.Gen Idealize.ShloMosaic Idealize.ShloMosaic.TcCoe Idealize.SL.Sem Cert.Codes

variable {F : FTy → Type} [FloatOps F]

/-! ## The operations -/

/-- The first 32 low-bit words of each half. -/
def lows0 (ql : Vec F S37888x14x2x64 .i8) : IVec S37888x14x2x32 32 :=
  extractStridedSlice S37888x14x2x32 ![0, 0, 0, 0] (extui 32 (ql : IVec S37888x14x2x64 8) natLt_8_32) slices_S37888x14x2x64_o0_0_0_0_S37888x14x2x32

/-- The second 32 low-bit words of each half. -/
def lows1 (ql : Vec F S37888x14x2x64 .i8) : IVec S37888x14x2x32 32 :=
  extractStridedSlice S37888x14x2x32 ![0, 0, 0, 32] (extui 32 (ql : IVec S37888x14x2x64 8) natLt_8_32) slices_S37888x14x2x64_o0_0_0_32_S37888x14x2x32

/-- The low nibble of each word. -/
def lowNib (v : IVec S37888x14x2x32 32) : IVec S37888x14x2x32 32 := andi v (broadcast S37888x14x2x32 15#32)

/-- The high nibble of each word. -/
def highNib (v : IVec S37888x14x2x32 32) : IVec S37888x14x2x32 32 := shrsi v (broadcast S37888x14x2x32 4#32)

/-- The pair of bits from bit `s` of each word of the high bits, at bits 4 and 5. -/
def highs (qh : Vec F S37888x14x2x32 .i8) (s : BitVec 32) : IVec S37888x14x2x32 32 :=
  shli (andi (shrsi (extui 32 (qh : IVec S37888x14x2x32 8) natLt_8_32) (broadcast S37888x14x2x32 s)) (broadcast S37888x14x2x32 3#32)) (broadcast S37888x14x2x32 4#32)

/-- The weights of one field: its codes less 32, times the scales of its sub-blocks. -/
def field (v : IVec S37888x14x2x32 32) (e : FVec F S37888x14x2x1x2 .bf16) : FVec F S37888x14x2x1x32 .bf16 :=
  shapeCast S37888x14x2x1x32
    (mulf (shapeCast S37888x14x2x2x16 (subf (sitofp .bf16 v) (broadcast S37888x14x2x32 (Scalar.ofBits .bf16 0x4200#16))) shapeCasts_S37888x14x2x32_S37888x14x2x2x16)
      (broadcastTo S37888x14x2x2x16 (shapeCast S37888x14x2x2x1 (shapeCast S37888x14x2x2 e shapeCasts_S37888x14x2x1x2_S37888x14x2x2) shapeCasts_S37888x14x2x2_S37888x14x2x2x1) broadcasts_S37888x14x2x2x1_S37888x14x2x2x16))
    shapeCasts_S37888x14x2x2x16_S37888x14x2x1x32

/-- The matrix of weights. -/
def weights (ql : Vec F S37888x14x2x64 .i8) (qh : Vec F S37888x14x2x32 .i8) (sc : Vec F S37888x14x16 .i8) (d : Vec F S37888x14 .i16) :
    FVec F S37888x3584 .bf16 :=
  shapeCast S37888x3584 (concatenate S37888x14x2x4x32 3
    [⟨S37888x14x2x1x32, field (ori (lowNib (lows0 (F := F) ql)) (highs (F := F) qh 0#32))
        (extractStridedSlice S37888x14x2x1x2 ![0, 0, 0, 0, 0] (k0_pay3 sc d) slices_S37888x14x2x4x2_o0_0_0_0_0_S37888x14x2x1x2)⟩,
     ⟨S37888x14x2x1x32, field (ori (lowNib (lows1 (F := F) ql)) (highs (F := F) qh 2#32))
        (extractStridedSlice S37888x14x2x1x2 ![0, 0, 0, 1, 0] (k0_pay3 sc d) slices_S37888x14x2x4x2_o0_0_0_1_0_S37888x14x2x1x2)⟩,
     ⟨S37888x14x2x1x32, field (ori (highNib (lows0 (F := F) ql)) (highs (F := F) qh 4#32))
        (extractStridedSlice S37888x14x2x1x2 ![0, 0, 0, 2, 0] (k0_pay3 sc d) slices_S37888x14x2x4x2_o0_0_0_2_0_S37888x14x2x1x2)⟩,
     ⟨S37888x14x2x1x32, field (ori (highNib (lows1 (F := F) ql)) (highs (F := F) qh 6#32))
        (extractStridedSlice S37888x14x2x1x2 ![0, 0, 0, 3, 0] (k0_pay3 sc d) slices_S37888x14x2x4x2_o0_0_0_3_0_S37888x14x2x1x2)⟩]
    concatenates_S37888x14x2x1x32_S37888x14x2x1x32_S37888x14x2x1x32_S37888x14x2x1x32_S37888x14x2x4x32_d3)
    shapeCasts_S37888x14x2x4x32_S37888x3584

/-- The gated product of the two projections. -/
def output (x : FVec F S256x3584 .bf16) (wg wu : FVec F S37888x3584 .bf16) : FVec F S256x37888 .bf16 :=
  let g := matmul dot_S256x3584_S37888x3584_S256x37888_1_1_0_0_n_n none x wg (constant S256x37888 .f32 0x00000000#32)
  let u := matmul dot_S256x3584_S37888x3584_S256x37888_1_1_0_0_n_n none x wu (constant S256x37888 .f32 0x00000000#32)
  truncf .bf16 (mulf (mulf g (logistic g)) u) bitsLt_bf16_f32

/-- The weights as the reference's steps compute them are `weights`. -/
theorem gate_eq (ql : Vec F S37888x14x2x64 .i8) (qh : Vec F S37888x14x2x32 .i8) (sc : Vec F S37888x14x16 .i8) (d : Vec F S37888x14 .i16) :
    k0_pay11 (k0_pay3 sc d) (k0_pay4 ql qh sc d) (k0_pay7 (k0_pay3 sc d) (k0_pay5 (F := F) qh) (k0_pay6 (F := F) ql)) (k0_pay8 ql qh (k0_pay3 sc d))
        (k0_pay9 (F := F) ql) (k0_pay10 (F := F) qh)
      = weights ql qh sc d := rfl

/-! ## Reading at an index -/

/-- The weights of one field, at an index: the code less thirty-two, times the scale. -/
theorem field_apply (v : IVec S37888x14x2x32 32) (e : FVec Ideal S37888x14x2x1x2 .bf16) (o : Fin 37888) (j : Fin 14) (h : Fin 2) (t : Fin 32) :
    field (F := Ideal) v e (ValueIdx.ix5 o j h 0 t)
      = ((((v (ValueIdx.ix4 o j h t)).toInt : ℝ) : EReal) - Ideal.ofBits .bf16 0x4200#16) * e (ValueIdx.ix5 o j h 0 ⟨t.val / 16, by omega⟩) := by
  unfold field
  pointwise
  rfl

/-- The low four bits of a byte, by a mask. -/
theorem low_word (a : BitVec 8) : a.setWidth 32 &&& 15#32 = (a.extractLsb' 0 4).setWidth 32 := by
  revert a; decide +kernel

/-- The high four bits of a byte, by a shift. -/
theorem high_word (a : BitVec 8) : IntOp.shrsi .vector (a.setWidth 32) 4#32 = (a.extractLsb' 4 4).setWidth 32 := by
  revert a; decide +kernel

/-- The shift that brings the pair of field `f` to bit 0. -/
def amount : Fin 4 → BitVec 32
  | 0 => 0#32
  | 1 => 2#32
  | 2 => 4#32
  | 3 => 6#32

/-- The two high bits of a code, moved to their place. -/
theorem pair_word (q : BitVec 8) (f : Fin 4) :
    IntOp.shli .vector (IntOp.shrsi .vector (q.setWidth 32) (amount f) &&& 3#32) 4#32 = (pair q f).setWidth 32 <<< 4 := by
  revert q f; decide +kernel

/-- Low and high bits joined are the six-bit code. -/
theorem join_word (p : BitVec 2) (n : BitVec 4) : n.setWidth 32 ||| (p.setWidth 32 <<< 4) = (0#26 ++ p ++ n : BitVec 32) := by
  revert p n; decide +kernel

/-- The code's word in field `f`, from the packed bytes. -/
def fieldCode (ql : Vec F S37888x14x2x64 .i8) (qh : Vec F S37888x14x2x32 .i8) : Fin 4 → IVec S37888x14x2x32 32
  | 0 => ori (lowNib (lows0 (F := F) ql)) (highs (F := F) qh 0#32)
  | 1 => ori (lowNib (lows1 (F := F) ql)) (highs (F := F) qh 2#32)
  | 2 => ori (highNib (lows0 (F := F) ql)) (highs (F := F) qh 4#32)
  | 3 => ori (highNib (lows1 (F := F) ql)) (highs (F := F) qh 6#32)

/-- The first thirty-two bytes of low bits of a half super-block, at an index. -/
theorem lows0_apply (ql : Vec Ideal S37888x14x2x64 .i8) (o : Fin 37888) (j : Fin 14) (h : Fin 2) (t : Fin 32) :
    lows0 (F := Ideal) ql (ValueIdx.ix4 o j h t) = BitVec.setWidth 32 (ql (ValueIdx.ix4 o j h ⟨t.val, by omega⟩) : BitVec 8) := by
  unfold lows0
  pointwise
  rfl

/-- The last thirty-two bytes of low bits of a half super-block, at an index. -/
theorem lows1_apply (ql : Vec Ideal S37888x14x2x64 .i8) (o : Fin 37888) (j : Fin 14) (h : Fin 2) (t : Fin 32) :
    lows1 (F := Ideal) ql (ValueIdx.ix4 o j h t) = BitVec.setWidth 32 (ql (ValueIdx.ix4 o j h ⟨32 + t.val, by omega⟩) : BitVec 8) := by
  unfold lows1
  pointwise
  rfl

/-- The reference's code of field `f` at an index, as six bits from the packed bytes. -/
theorem fieldCode_apply (ql : Vec Ideal S37888x14x2x64 .i8) (qh : Vec Ideal S37888x14x2x32 .i8) (f : Fin 4) (o : Fin 37888) (j : Fin 14)
    (h : Fin 2) (t : Fin 32) :
    fieldCode (F := Ideal) ql qh f (ValueIdx.ix4 o j h t)
      = (0#26 ++ pair (qh (ValueIdx.ix4 o j h t)) f
          ++ nib (ql (ValueIdx.ix4 o j h ⟨t.val, by omega⟩)) (ql (ValueIdx.ix4 o j h ⟨32 + t.val, by omega⟩)) f : BitVec 32) := by
  have hq := pair_word (qh (ValueIdx.ix4 o j h t)) f
  rw [← join_word, ← hq]
  match f with
  | 0 =>
    show lows0 (F := Ideal) ql (ValueIdx.ix4 o j h t) &&& 15#32 ||| _ = (BitVec.extractLsb' 0 4 _).setWidth 32 ||| _
    rw [lows0_apply, low_word]
    rfl
  | 1 =>
    show lows1 (F := Ideal) ql (ValueIdx.ix4 o j h t) &&& 15#32 ||| _ = (BitVec.extractLsb' 0 4 _).setWidth 32 ||| _
    rw [lows1_apply, low_word]
    rfl
  | 2 =>
    show IntOp.shrsi .vector (lows0 (F := Ideal) ql (ValueIdx.ix4 o j h t)) 4#32 ||| _ = (BitVec.extractLsb' 4 4 _).setWidth 32 ||| _
    rw [lows0_apply, high_word]
    rfl
  | 3 =>
    show IntOp.shrsi .vector (lows1 (F := Ideal) ql (ValueIdx.ix4 o j h t)) 4#32 ||| _ = (BitVec.extractLsb' 4 4 _).setWidth 32 ||| _
    rw [lows1_apply, high_word]
    rfl

/-- The scale of sub-block `8 h + 2 f + s`. -/
theorem eff_apply (sc : Vec Ideal S37888x14x16 .i8) (d : Vec Ideal S37888x14 .i16) (o : Fin 37888) (j : Fin 14) (h : Fin 2) (f : Fin 4) (s : Fin 2) :
    k0_pay3 (F := Ideal) sc d (ValueIdx.ix5 o j h f s)
      = Ideal.ofBits .f16 (d (ValueIdx.ix2 o j))
        * (((sc (ValueIdx.ix3 o j ⟨8 * h.val + 2 * f.val + s.val, by omega⟩) : BitVec 8).toInt : ℝ) : EReal) := by
  have hs : ∀ h1 h2, (⟨h.val * 8 + f.val * 2 + s.val, h1⟩ : Fin 16) = ⟨8 * h.val + 2 * f.val + s.val, h2⟩ := fun _ _ => Fin.ext (by
    show h.val * 8 + f.val * 2 + s.val = 8 * h.val + 2 * f.val + s.val; omega)
  rw [← hs (by omega)]
  unfold k0_pay3
  pointwise
  rfl

/-- The matrix of weights before its last two axes are merged. -/
def stacked (ql : Vec F S37888x14x2x64 .i8) (qh : Vec F S37888x14x2x32 .i8) (sc : Vec F S37888x14x16 .i8) (d : Vec F S37888x14 .i16) :
    FVec F S37888x14x2x4x32 .bf16 :=
  concatenate S37888x14x2x4x32 3
    [⟨S37888x14x2x1x32, field (fieldCode ql qh 0)
        (extractStridedSlice S37888x14x2x1x2 ![0, 0, 0, 0, 0] (k0_pay3 sc d) slices_S37888x14x2x4x2_o0_0_0_0_0_S37888x14x2x1x2)⟩,
     ⟨S37888x14x2x1x32, field (fieldCode ql qh 1)
        (extractStridedSlice S37888x14x2x1x2 ![0, 0, 0, 1, 0] (k0_pay3 sc d) slices_S37888x14x2x4x2_o0_0_0_1_0_S37888x14x2x1x2)⟩,
     ⟨S37888x14x2x1x32, field (fieldCode ql qh 2)
        (extractStridedSlice S37888x14x2x1x2 ![0, 0, 0, 2, 0] (k0_pay3 sc d) slices_S37888x14x2x4x2_o0_0_0_2_0_S37888x14x2x1x2)⟩,
     ⟨S37888x14x2x1x32, field (fieldCode ql qh 3)
        (extractStridedSlice S37888x14x2x1x2 ![0, 0, 0, 3, 0] (k0_pay3 sc d) slices_S37888x14x2x4x2_o0_0_0_3_0_S37888x14x2x1x2)⟩]
    concatenates_S37888x14x2x1x32_S37888x14x2x1x32_S37888x14x2x1x32_S37888x14x2x1x32_S37888x14x2x4x32_d3

/-- A weight at column `k` is the stacked weight at the super-block, half, field and place of `k`. -/
theorem weights_apply (ql : Vec Ideal S37888x14x2x64 .i8) (qh : Vec Ideal S37888x14x2x32 .i8) (sc : Vec Ideal S37888x14x16 .i8)
    (d : Vec Ideal S37888x14 .i16) (o : Fin 37888) (k : Fin 3584) :
    weights (F := Ideal) ql qh sc d (ValueIdx.ix2 o k)
      = stacked (F := Ideal) ql qh sc d (ValueIdx.ix5 o ⟨k.val / 256, by omega⟩ ⟨k.val % 256 / 128, by omega⟩ ⟨k.val % 128 / 32, by omega⟩
          ⟨k.val % 32, by omega⟩) := by
  show shapeCast S37888x3584 (stacked (F := Ideal) ql qh sc d) shapeCasts_S37888x14x2x4x32_S37888x3584 (ValueIdx.ix2 o k) = _
  generalize stacked (F := Ideal) ql qh sc d = v
  have h1 : ∀ p q, (⟨k.val % 256 / 128, p⟩ : Fin 2) = ⟨k.val / 128 % 2, q⟩ := fun _ _ => Fin.ext (by
    show k.val % 256 / 128 = k.val / 128 % 2; omega)
  have h2 : ∀ p q, (⟨k.val % 128 / 32, p⟩ : Fin 4) = ⟨k.val / 32 % 4, q⟩ := fun _ _ => Fin.ext (by
    show k.val % 128 / 32 = k.val / 32 % 4; omega)
  rw [h1 _ (by omega), h2 _ (by omega)]
  pointwise
  rfl

/-- One field's tile of the weights. -/
theorem tile_apply (ql : Vec Ideal S37888x14x2x64 .i8) (qh : Vec Ideal S37888x14x2x32 .i8) (e : FVec Ideal S37888x14x2x1x2 .bf16)
    (f : Fin 4) (o : Fin 37888) (j : Fin 14) (h : Fin 2) (t : Fin 32) :
    field (F := Ideal) (fieldCode (F := Ideal) ql qh f) e (ValueIdx.ix5 o j h 0 t)
      = (((code (ql (ValueIdx.ix4 o j h ⟨t.val, by omega⟩)) (ql (ValueIdx.ix4 o j h ⟨32 + t.val, by omega⟩)) (qh (ValueIdx.ix4 o j h t)) f
          : Int) : ℝ) : EReal) * e (ValueIdx.ix5 o j h 0 ⟨t.val / 16, by omega⟩) := by
  rw [field_apply, fieldCode_apply, Cert.Decode.thirtyTwo, ← EReal.coe_sub]
  unfold code
  rw [Int.cast_sub]
  rfl

/-- The scales of field 0. -/
theorem slice0 (e : FVec Ideal S37888x14x2x4x2 .bf16) (o : Fin 37888) (j : Fin 14) (h : Fin 2) (s : Fin 2) :
    extractStridedSlice S37888x14x2x1x2 ![0, 0, 0, 0, 0] e slices_S37888x14x2x4x2_o0_0_0_0_0_S37888x14x2x1x2 (ValueIdx.ix5 o j h 0 s)
      = e (ValueIdx.ix5 o j h 0 s) := by
  pointwise
  rfl

/-- The scales of field 1. -/
theorem slice1 (e : FVec Ideal S37888x14x2x4x2 .bf16) (o : Fin 37888) (j : Fin 14) (h : Fin 2) (s : Fin 2) :
    extractStridedSlice S37888x14x2x1x2 ![0, 0, 0, 1, 0] e slices_S37888x14x2x4x2_o0_0_0_1_0_S37888x14x2x1x2 (ValueIdx.ix5 o j h 0 s)
      = e (ValueIdx.ix5 o j h 1 s) := by
  pointwise
  rfl

/-- The scales of field 2. -/
theorem slice2 (e : FVec Ideal S37888x14x2x4x2 .bf16) (o : Fin 37888) (j : Fin 14) (h : Fin 2) (s : Fin 2) :
    extractStridedSlice S37888x14x2x1x2 ![0, 0, 0, 2, 0] e slices_S37888x14x2x4x2_o0_0_0_2_0_S37888x14x2x1x2 (ValueIdx.ix5 o j h 0 s)
      = e (ValueIdx.ix5 o j h 2 s) := by
  pointwise
  rfl

/-- The scales of field 3. -/
theorem slice3 (e : FVec Ideal S37888x14x2x4x2 .bf16) (o : Fin 37888) (j : Fin 14) (h : Fin 2) (s : Fin 2) :
    extractStridedSlice S37888x14x2x1x2 ![0, 0, 0, 3, 0] e slices_S37888x14x2x4x2_o0_0_0_3_0_S37888x14x2x1x2 (ValueIdx.ix5 o j h 0 s)
      = e (ValueIdx.ix5 o j h 3 s) := by
  pointwise
  rfl

/-- Four tiles stacked along the axis of fields. -/
theorem stack_apply (v0 v1 v2 v3 : FVec Ideal S37888x14x2x1x32 .bf16) (o : Fin 37888) (j : Fin 14) (h : Fin 2) (f : Fin 4) (t : Fin 32) :
    concatenate S37888x14x2x4x32 3
        [⟨S37888x14x2x1x32, v0⟩, ⟨S37888x14x2x1x32, v1⟩, ⟨S37888x14x2x1x32, v2⟩, ⟨S37888x14x2x1x32, v3⟩]
        concatenates_S37888x14x2x1x32_S37888x14x2x1x32_S37888x14x2x1x32_S37888x14x2x1x32_S37888x14x2x4x32_d3 (ValueIdx.ix5 o j h f t)
      = (![v0, v1, v2, v3] : Fin 4 → FVec Ideal S37888x14x2x1x32 .bf16) f (ValueIdx.ix5 o j h 0 t) := by
  match f with
  | 0 => pointwise; rfl
  | 1 => pointwise; rfl
  | 2 => pointwise; rfl
  | 3 => pointwise; rfl

/-- A stacked weight, at an index: the code from the packed bytes times the scale of its sub-block. -/
theorem stacked_apply (ql : Vec Ideal S37888x14x2x64 .i8) (qh : Vec Ideal S37888x14x2x32 .i8) (sc : Vec Ideal S37888x14x16 .i8)
    (d : Vec Ideal S37888x14 .i16) (o : Fin 37888) (j : Fin 14) (h : Fin 2) (f : Fin 4) (t : Fin 32) :
    stacked (F := Ideal) ql qh sc d (ValueIdx.ix5 o j h f t)
      = (((code (ql (ValueIdx.ix4 o j h ⟨t.val, by omega⟩)) (ql (ValueIdx.ix4 o j h ⟨32 + t.val, by omega⟩)) (qh (ValueIdx.ix4 o j h t)) f
          : Int) : ℝ) : EReal) * k0_pay3 (F := Ideal) sc d (ValueIdx.ix5 o j h f ⟨t.val / 16, by omega⟩) := by
  unfold stacked
  rw [stack_apply]
  match f with
  | 0 => exact (tile_apply ql qh _ 0 o j h t).trans (congrArg _ (slice0 _ o j h _))
  | 1 => exact (tile_apply ql qh _ 1 o j h t).trans (congrArg _ (slice1 _ o j h _))
  | 2 => exact (tile_apply ql qh _ 2 o j h t).trans (congrArg _ (slice2 _ o j h _))
  | 3 => exact (tile_apply ql qh _ 3 o j h t).trans (congrArg _ (slice3 _ o j h _))

/-- The reference's weight of column `k` at output `o`: the code times the product of the super-block's scale and the
    sub-block's. -/
def weightAt (ql : S37888x14x2x64.Idx → BitVec 8) (qh : S37888x14x2x32.Idx → BitVec 8) (sc : S37888x14x16.Idx → BitVec 8)
    (d : S37888x14.Idx → BitVec 16) (o : Fin 37888) (k : Fin 3584) : EReal :=
  (((code (ql (ValueIdx.ix4 o ⟨k.val / 256, by omega⟩ ⟨k.val % 256 / 128, by omega⟩ ⟨k.val % 32, by omega⟩))
      (ql (ValueIdx.ix4 o ⟨k.val / 256, by omega⟩ ⟨k.val % 256 / 128, by omega⟩ ⟨32 + k.val % 32, by omega⟩))
      (qh (ValueIdx.ix4 o ⟨k.val / 256, by omega⟩ ⟨k.val % 256 / 128, by omega⟩ ⟨k.val % 32, by omega⟩)) ⟨k.val % 128 / 32, by omega⟩
      : Int) : ℝ) : EReal)
    * (Ideal.ofBits .f16 (d (ValueIdx.ix2 o ⟨k.val / 256, by omega⟩))
        * (((sc (ValueIdx.ix3 o ⟨k.val / 256, by omega⟩ ⟨k.val % 256 / 16, by omega⟩)).toInt : ℝ) : EReal))

/-- The reference's weight of output `o` at column `k` is `weightAt`. -/
theorem weights_eq (ql : Vec Ideal S37888x14x2x64 .i8) (qh : Vec Ideal S37888x14x2x32 .i8) (sc : Vec Ideal S37888x14x16 .i8)
    (d : Vec Ideal S37888x14 .i16) (o : Fin 37888) (k : Fin 3584) :
    weights (F := Ideal) ql qh sc d (ValueIdx.ix2 o k) = weightAt ql qh sc d o k := by
  rw [weights_apply, stacked_apply, eff_apply]
  have hs : ∀ h1 h2, (⟨8 * (k.val % 256 / 128) + 2 * (k.val % 128 / 32) + k.val % 32 / 16, h1⟩ : Fin 16) = ⟨k.val % 256 / 16, h2⟩ :=
    fun _ _ => Fin.ext (by show 8 * (k.val % 256 / 128) + 2 * (k.val % 128 / 32) + k.val % 32 / 16 = k.val % 256 / 16; omega)
  unfold weightAt
  rw [← hs (by omega)]

/-- The output of the reference, from its arguments, is `output` of the activations and the two matrices of weights. -/
theorem output_eq (x : FVec F S256x3584 .bf16) (wg : FVec F S37888x3584 .bf16) (ql : Vec F S37888x14x2x64 .i8)
    (qh : Vec F S37888x14x2x32 .i8) (sc : Vec F S37888x14x16 .i8) (d : Vec F S37888x14 .i16) :
    k0_pay1 x wg ql qh (k0_pay12 sc d) (k0_pay15 (k0_pay12 sc d) (k0_pay13 (F := F) ql) (k0_pay14 (F := F) qh))
        (k0_pay16 ql qh (k0_pay12 sc d)) (k0_pay17 ql qh)
      = output x wg (weights ql qh sc d) := rfl

/-- The reference's result, at an index: the gate sum times its logistic, times the up sum. -/
theorem output_apply (x : FVec Ideal S256x3584 .bf16) (wg wu : FVec Ideal S37888x3584 .bf16) (b : Fin 256) (o : Fin 37888) :
    output (F := Ideal) x wg wu (ValueIdx.ix2 b o)
      = (∑ k : Fin 3584, x (ValueIdx.ix2 b k) * wg (ValueIdx.ix2 o k))
          * Ideal.logistic (∑ k : Fin 3584, x (ValueIdx.ix2 b k) * wg (ValueIdx.ix2 o k))
          * ∑ k : Fin 3584, x (ValueIdx.ix2 b k) * wu (ValueIdx.ix2 o k) := by
  unfold output
  pointwise
  rfl

end Cert.RefWeights
-- ==== Proof.Equal.lean ====
/-  The kernel's weight is the reference's: four times the code, times the scale with its quarter, is the code times the scale. -/
module

public import proofs.«01_k».proof.Proof.Block
public import proofs.«01_k».proof.Proof.RefWeights

@[expose] public section

set_option maxRecDepth 16384

noncomputable section

namespace Cert.Equal

open Cert.KernelIdeal Cert.KernelIdeal.Gen Idealize.ShloMosaic Idealize.ShloMosaic.TcCoe Idealize.SL.Sem Cert.Sums Cert.Fill Cert.Trip Cert.Codes

/-- The four and the quarter cancel. -/
theorem cancel (c : Int) (s d : EReal) :
    (((4 * c : Int) : ℝ) : EReal) * (s * (d * ((1 / 4 : ℝ) : EReal))) = ((c : ℝ) : EReal) * (d * s) := by
  have h4 : (((4 * c : Int) : ℝ) : EReal) = ((c : ℝ) : EReal) * ((4 : ℝ) : EReal) := by
    rw [← EReal.coe_mul]
    exact EReal.coe_eq_coe_iff.2 (by push_cast; ring)
  have h1 : ((4 : ℝ) : EReal) * ((1 / 4 : ℝ) : EReal) = 1 := by
    rw [← EReal.coe_mul]
    exact EReal.coe_eq_coe_iff.2 (by norm_num)
  rw [h4]
  calc ((c : ℝ) : EReal) * ((4 : ℝ) : EReal) * (s * (d * ((1 / 4 : ℝ) : EReal)))
      = ((c : ℝ) : EReal) * (d * s) * (((4 : ℝ) : EReal) * ((1 / 4 : ℝ) : EReal)) := by ac_rfl
    _ = ((c : ℝ) : EReal) * (d * s) := by rw [h1, mul_one]

/-- The weights agree, when the blocks are entries of the arguments. -/
theorem weightAt_eq (ql : S1792x512.Idx → BitVec 8) (qh : S896x512.Idx → BitVec 8) (sc : Vec Ideal S14x16x512 .i8)
    (d : Vec Ideal S14x512 .i16) (QL : Cert.ReferenceIdeal.S37888x14x2x64.Idx → BitVec 8)
    (QH : Cert.ReferenceIdeal.S37888x14x2x32.Idx → BitVec 8) (SC : Cert.ReferenceIdeal.S37888x14x16.Idx → BitVec 8)
    (D : Cert.ReferenceIdeal.S37888x14.Idx → BitVec 16) (o : Fin 512) (O : Fin 37888)
    (hql : ∀ r : Fin 1792, ql (ValueIdx.ix2 r o)
      = QL (ValueIdx.ix4 O ⟨r.val / 128, by omega⟩ ⟨r.val % 128 / 64, by omega⟩ ⟨r.val % 64, by omega⟩))
    (hqh : ∀ r : Fin 896, qh (ValueIdx.ix2 r o)
      = QH (ValueIdx.ix4 O ⟨r.val / 64, by omega⟩ ⟨r.val % 64 / 32, by omega⟩ ⟨r.val % 32, by omega⟩))
    (hsc : ∀ (n : Fin 14) (u : Fin 16), sc (ValueIdx.ix3 n u o) = SC (ValueIdx.ix3 O n u))
    (hd : ∀ n : Fin 14, d (ValueIdx.ix2 n o) = D (ValueIdx.ix2 O n)) (k : Fin 3584) :
    weightAt ql qh (filled sc d) k o = Cert.RefWeights.weightAt QL QH SC D O k := by
  have hk := k.isLt
  have ea : ∀ (r : Fin 1792) (hr : r.val = 128 * (k.val / 256) + 64 * (k.val % 256 / 128) + (16 * (k.val % 128 / 16 % 2) + k.val % 16)),
      ql (ValueIdx.ix2 r o) = QL (ValueIdx.ix4 O ⟨k.val / 256, by omega⟩ ⟨k.val % 256 / 128, by omega⟩ ⟨k.val % 32, by omega⟩) := by
    intro r hr
    rw [hql]
    congr 1
    congr 1 <;> refine Fin.ext ?_ <;> dsimp only <;> omega
  have eb : ∀ (r : Fin 1792) (hr : r.val = 128 * (k.val / 256) + 64 * (k.val % 256 / 128) + 32 + (16 * (k.val % 128 / 16 % 2) + k.val % 16)),
      ql (ValueIdx.ix2 r o) = QL (ValueIdx.ix4 O ⟨k.val / 256, by omega⟩ ⟨k.val % 256 / 128, by omega⟩ ⟨32 + k.val % 32, by omega⟩) := by
    intro r hr
    rw [hql]
    congr 1
    congr 1 <;> refine Fin.ext ?_ <;> dsimp only <;> omega
  have eq : ∀ (r : Fin 896) (hr : r.val = 64 * (k.val / 256) + 32 * (k.val % 256 / 128) + (16 * (k.val % 128 / 16 % 2) + k.val % 16)),
      qh (ValueIdx.ix2 r o) = QH (ValueIdx.ix4 O ⟨k.val / 256, by omega⟩ ⟨k.val % 256 / 128, by omega⟩ ⟨k.val % 32, by omega⟩) := by
    intro r hr
    rw [hqh]
    congr 1
    congr 1 <;> refine Fin.ext ?_ <;> dsimp only <;> omega
  have es : ∀ (y : Fin 224) (q : Fin 2) (hy : y.val = 16 * (k.val / 256) + 8 * (k.val % 256 / 128) + k.val % 128 / 16),
      filled sc d (ValueIdx.ix3 y q o)
        = (((SC (ValueIdx.ix3 O ⟨k.val / 256, by omega⟩ ⟨k.val % 256 / 16, by omega⟩)).toInt : ℝ) : EReal)
          * (Ideal.ofBits .f16 (D (ValueIdx.ix2 O ⟨k.val / 256, by omega⟩)) * ((1 / 4 : ℝ) : EReal)) := by
    intro y q hy
    have e1 : ∀ h h', (⟨y.val / 16, h⟩ : Fin 14) = ⟨k.val / 256, h'⟩ := fun _ _ => Fin.ext (by show y.val / 16 = k.val / 256; omega)
    have e2 : ∀ h h', (⟨y.val % 16, h⟩ : Fin 16) = ⟨k.val % 256 / 16, h'⟩ := fun _ _ => Fin.ext (by show y.val % 16 = k.val % 256 / 16; omega)
    show scaleVal sc d ⟨y.val / 16, by omega⟩ ⟨y.val % 16, by omega⟩ o = _
    unfold scaleVal
    rw [hsc, hd, e1 _ (by omega), e2 _ (by omega)]
  have ef : ∀ h h', (⟨k.val % 128 / 16 / 2, h⟩ : Fin 4) = ⟨k.val % 128 / 32, h'⟩ := fun _ _ => Fin.ext (by
    show k.val % 128 / 16 / 2 = k.val % 128 / 32; omega)
  unfold weightAt weight Cert.RefWeights.weightAt
  dsimp only
  rw [ea _ rfl, eb _ rfl, eq _ rfl, es _ _ rfl, ef _ (by omega)]
  exact cancel _ _ _

end Cert.Equal
-- ==== Proof.Reads.lean ====
/-  The blocks a grid point reads, as entries of the arguments. -/
module

public import proofs.«01_k».proof.Proof.Block
public import proofs.«01_k».proof.Proof.Gen.KernelIdeal.Value
public import Idealize.ShloMosaic.Lib.Pipeline.ValueKit

@[expose] public section

set_option maxRecDepth 16384

noncomputable section

namespace Cert.Reads

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The block of every window at a grid point. -/
theorem idx : ∀ t : Fin cfg0.N, win0_0.index t = ![0, 0] ∧ win0_1.index t = ![0, t.val] ∧ win0_2.index t = ![0, t.val]
    ∧ win0_3.index t = ![0, 0, t.val] ∧ win0_4.index t = ![0, t.val] ∧ win0_5.index t = ![0, t.val] ∧ win0_6.index t = ![0, t.val]
    ∧ win0_7.index t = ![0, 0, t.val] ∧ win0_8.index t = ![0, t.val] ∧ win0_9.index t = ![0, t.val] :=
  (by decide +kernel : ∀ t : Fin grid0.N, _)

/-- There are seventy-four grid points. -/
theorem lt74 (t : Fin cfg0.N) : t.val < 74 := lt_of_lt_of_eq t.isLt (by decide +kernel : cfg0.N = 74)

/-- The activations. -/
theorem acts (c : Dev nD) (t : Fin cfg0.N) (b : Fin 256) (k : Fin 3584) :
    iblk m c 0 t (ValueIdx.ix2 b k) = m ((c : Thread nD τ).loc main_arg0) (ValueIdx.ix3 b 0 k) := by
  have h := lt74 t
  blk_simp [iblk, idx t]
  entry_read
  pointwise
  blk_point [idx t]

/-- The packed low bits of the gate projection. -/
theorem gate_low (c : Dev nD) (t : Fin cfg0.N) (r : Fin 1792) (o : Fin 512) :
    iblk m c 1 t (ValueIdx.ix2 r o) = m ((c : Thread nD τ).loc main_arg1) (ValueIdx.ix4 ⟨512 * t.val + o.val, by have := lt74 t; omega⟩ ⟨r.val / 128, by omega⟩ ⟨r.val % 128 / 64, by omega⟩ ⟨r.val % 64, by omega⟩) := by
  have h := lt74 t
  blk_simp [iblk, idx t]
  entry_read
  pointwise
  blk_point [idx t]
  · show t.val * 512 + o.val = 512 * t.val + o.val
    omega
  · show r.val / 64 % 2 = r.val % 128 / 64
    omega

/-- The packed high bits of the gate projection. -/
theorem gate_high (c : Dev nD) (t : Fin cfg0.N) (r : Fin 896) (o : Fin 512) :
    iblk m c 2 t (ValueIdx.ix2 r o) = m ((c : Thread nD τ).loc main_arg2) (ValueIdx.ix4 ⟨512 * t.val + o.val, by have := lt74 t; omega⟩ ⟨r.val / 64, by omega⟩ ⟨r.val % 64 / 32, by omega⟩ ⟨r.val % 32, by omega⟩) := by
  have h := lt74 t
  blk_simp [iblk, idx t]
  entry_read
  pointwise
  blk_point [idx t]
  · show t.val * 512 + o.val = 512 * t.val + o.val
    omega
  · show r.val / 32 % 2 = r.val % 64 / 32
    omega

/-- The sub-block scales of the gate projection. -/
theorem gate_scale (c : Dev nD) (t : Fin cfg0.N) (n : Fin 14) (u : Fin 16) (o : Fin 512) :
    iblk m c 3 t (ValueIdx.ix3 n u o) = m ((c : Thread nD τ).loc main_arg3) (ValueIdx.ix3 ⟨512 * t.val + o.val, by have := lt74 t; omega⟩ n u) := by
  have h := lt74 t
  blk_simp [iblk, idx t]
  entry_read
  pointwise
  blk_point [idx t]
  show t.val * 512 + o.val = 512 * t.val + o.val
  omega

/-- The super-block scales of the gate projection. -/
theorem gate_super (c : Dev nD) (t : Fin cfg0.N) (n : Fin 14) (o : Fin 512) :
    iblk m c 4 t (ValueIdx.ix2 n o) = m ((c : Thread nD τ).loc main_arg4) (ValueIdx.ix2 ⟨512 * t.val + o.val, by have := lt74 t; omega⟩ n) := by
  have h := lt74 t
  blk_simp [iblk, idx t]
  entry_read
  pointwise
  blk_point [idx t]
  show t.val * 512 + o.val = 512 * t.val + o.val
  omega

/-- The packed low bits of the up projection. -/
theorem up_low (c : Dev nD) (t : Fin cfg0.N) (r : Fin 1792) (o : Fin 512) :
    iblk m c 5 t (ValueIdx.ix2 r o) = m ((c : Thread nD τ).loc main_arg5) (ValueIdx.ix4 ⟨512 * t.val + o.val, by have := lt74 t; omega⟩ ⟨r.val / 128, by omega⟩ ⟨r.val % 128 / 64, by omega⟩ ⟨r.val % 64, by omega⟩) := by
  have h := lt74 t
  blk_simp [iblk, idx t]
  entry_read
  pointwise
  blk_point [idx t]
  · show t.val * 512 + o.val = 512 * t.val + o.val
    omega
  · show r.val / 64 % 2 = r.val % 128 / 64
    omega

/-- The packed high bits of the up projection. -/
theorem up_high (c : Dev nD) (t : Fin cfg0.N) (r : Fin 896) (o : Fin 512) :
    iblk m c 6 t (ValueIdx.ix2 r o) = m ((c : Thread nD τ).loc main_arg6) (ValueIdx.ix4 ⟨512 * t.val + o.val, by have := lt74 t; omega⟩ ⟨r.val / 64, by omega⟩ ⟨r.val % 64 / 32, by omega⟩ ⟨r.val % 32, by omega⟩) := by
  have h := lt74 t
  blk_simp [iblk, idx t]
  entry_read
  pointwise
  blk_point [idx t]
  · show t.val * 512 + o.val = 512 * t.val + o.val
    omega
  · show r.val / 32 % 2 = r.val % 64 / 32
    omega

/-- The sub-block scales of the up projection. -/
theorem up_scale (c : Dev nD) (t : Fin cfg0.N) (n : Fin 14) (u : Fin 16) (o : Fin 512) :
    iblk m c 7 t (ValueIdx.ix3 n u o) = m ((c : Thread nD τ).loc main_arg7) (ValueIdx.ix3 ⟨512 * t.val + o.val, by have := lt74 t; omega⟩ n u) := by
  have h := lt74 t
  blk_simp [iblk, idx t]
  entry_read
  pointwise
  blk_point [idx t]
  show t.val * 512 + o.val = 512 * t.val + o.val
  omega

/-- The super-block scales of the up projection. -/
theorem up_super (c : Dev nD) (t : Fin cfg0.N) (n : Fin 14) (o : Fin 512) :
    iblk m c 8 t (ValueIdx.ix2 n o) = m ((c : Thread nD τ).loc main_arg8) (ValueIdx.ix2 ⟨512 * t.val + o.val, by have := lt74 t; omega⟩ n) := by
  have h := lt74 t
  blk_simp [iblk, idx t]
  entry_read
  pointwise
  blk_point [idx t]
  show t.val * 512 + o.val = 512 * t.val + o.val
  omega

end Cert.Reads
-- ==== Proof.Final.lean ====
/-  The kernel's array after the run is the reference's. -/
module

public import proofs.«01_k».proof.Proof.Equal
public import proofs.«01_k».proof.Proof.Reads
public import proofs.«01_k».proof.Proof.Gen.ReferenceIdeal.Value

@[expose] public section

set_option maxRecDepth 16384

noncomputable section

namespace Cert.Final

open Cert.KernelIdeal Cert.KernelIdeal.Gen Idealize.ShloMosaic Idealize.ShloMosaic.TcCoe Idealize.SL.Sem
open Idealize.ShloMosaic.Pipeline (Dat)

/-! ## The reference -/

section Reference

/-- The reference's array is the gated product of the activations with the two matrices of weights. -/
theorem reference_eq {F : FTy → Type} [FloatOps F] (a0 : Vec F Cert.ReferenceIdeal.S256x1x3584 .bf16)
    (a1 : Vec F Cert.ReferenceIdeal.S37888x14x2x64 .i8) (a2 : Vec F Cert.ReferenceIdeal.S37888x14x2x32 .i8)
    (a3 : Vec F Cert.ReferenceIdeal.S37888x14x16 .i8) (a4 : Vec F Cert.ReferenceIdeal.S37888x14 .i16)
    (a5 : Vec F Cert.ReferenceIdeal.S37888x14x2x64 .i8) (a6 : Vec F Cert.ReferenceIdeal.S37888x14x2x32 .i8)
    (a7 : Vec F Cert.ReferenceIdeal.S37888x14x16 .i8) (a8 : Vec F Cert.ReferenceIdeal.S37888x14 .i16) :
    Cert.ReferenceIdeal.Value.G9 a0 a1 a2 a3 a4 a5 a6 a7 a8
      = Cert.RefWeights.output (Cert.ReferenceIdeal.Gen.k0_pay2 a0) (Cert.RefWeights.weights a1 a2 a3 a4) (Cert.RefWeights.weights a5 a6 a7 a8) := by
  have e18 : Cert.ReferenceIdeal.Gen.k0_pay18 a0 a1 a2 a3 a4 a5 a6 a7 a8 = Cert.ReferenceIdeal.Gen.k0_pay3 a3 a4 := by
    unfold Cert.ReferenceIdeal.Gen.k0_pay18
    rw [View.ld_unit_lit (S := Cert.ReferenceIdeal.S37888x14x16) _ a3 (by decide +kernel),
      View.ld_unit_lit (S := Cert.ReferenceIdeal.S37888x14) _ a4 (by decide +kernel)]
  have e19 : Cert.ReferenceIdeal.Gen.k0_pay19 a0 a1 a2 a3 a4 a5 a6 a7 a8 = Cert.ReferenceIdeal.Gen.k0_pay12 a7 a8 := by
    unfold Cert.ReferenceIdeal.Gen.k0_pay19
    rw [View.ld_unit_lit (S := Cert.ReferenceIdeal.S37888x14x16) _ a7 (by decide +kernel),
      View.ld_unit_lit (S := Cert.ReferenceIdeal.S37888x14) _ a8 (by decide +kernel)]
  unfold Cert.ReferenceIdeal.Value.G9
  rw [e18, e19, Cert.RefWeights.gate_eq, Cert.RefWeights.output_eq]

/-- The activations as the reference's products read them. -/
theorem acts_apply (a0 : Vec Ideal Cert.ReferenceIdeal.S256x1x3584 .bf16) (b : Fin 256) (k : Fin 3584) :
    Cert.ReferenceIdeal.Gen.k0_pay2 a0 (ValueIdx.ix2 b k) = a0 (ValueIdx.ix3 b 0 k) := by
  unfold Cert.ReferenceIdeal.Gen.k0_pay2
  pointwise
  rfl

end Reference

/-! ## The kernel -/

variable (m : (ℓ : Loc nD τ sig) → Buf (Elt Ideal) ℓ)

/-- The reference's array on the kernel's arguments. -/
abbrev REF (c : Dev nD) : Vec Ideal S256x37888 .bf16 :=
  Cert.ReferenceIdeal.Value.G9 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- Multiplication by `x` on the left. -/
def mulLeft (x w : EReal) : EReal := x * w

/-- The gate projection of a block is the reference's. -/
theorem gate_proj (c : Dev nD) (t : Fin cfg0.N) (b : Fin 256) (o : Fin 512) :
    Cert.Block.proj (iblk m c 0 t) (iblk m c 1 t) (iblk m c 2 t) (iblk m c 3 t) (iblk m c 4 t) b o
      = ∑ k : Fin 3584, Cert.ReferenceIdeal.Gen.k0_pay2 (F := Ideal) (m ((c : Thread nD τ).loc main_arg0)) (ValueIdx.ix2 b k)
          * Cert.RefWeights.weights (F := Ideal) (m ((c : Thread nD τ).loc main_arg1)) (m ((c : Thread nD τ).loc main_arg2))
              (m ((c : Thread nD τ).loc main_arg3)) (m ((c : Thread nD τ).loc main_arg4))
              (ValueIdx.ix2 ⟨512 * t.val + o.val, by have := Cert.Reads.lt74 t; omega⟩ k) := by
  unfold Cert.Block.proj
  refine Finset.sum_congr rfl fun k _ => ?_
  rw [Cert.RefWeights.weights_eq, acts_apply, Cert.Reads.acts]
  refine congrArg (mulLeft (m ((c : Thread nD τ).loc main_arg0) (ValueIdx.ix3 b 0 k))) ?_
  exact Cert.Equal.weightAt_eq _ _ _ _ _ _ _ _ o _ (fun r => Cert.Reads.gate_low m c t r o) (fun r => Cert.Reads.gate_high m c t r o)
    (fun n u => Cert.Reads.gate_scale m c t n u o) (fun n => Cert.Reads.gate_super m c t n o) k

/-- The up projection of a block is the reference's. -/
theorem up_proj (c : Dev nD) (t : Fin cfg0.N) (b : Fin 256) (o : Fin 512) :
    Cert.Block.proj (iblk m c 0 t) (iblk m c 5 t) (iblk m c 6 t) (iblk m c 7 t) (iblk m c 8 t) b o
      = ∑ k : Fin 3584, Cert.ReferenceIdeal.Gen.k0_pay2 (F := Ideal) (m ((c : Thread nD τ).loc main_arg0)) (ValueIdx.ix2 b k)
          * Cert.RefWeights.weights (F := Ideal) (m ((c : Thread nD τ).loc main_arg5)) (m ((c : Thread nD τ).loc main_arg6))
              (m ((c : Thread nD τ).loc main_arg7)) (m ((c : Thread nD τ).loc main_arg8))
              (ValueIdx.ix2 ⟨512 * t.val + o.val, by have := Cert.Reads.lt74 t; omega⟩ k) := by
  unfold Cert.Block.proj
  refine Finset.sum_congr rfl fun k _ => ?_
  rw [Cert.RefWeights.weights_eq, acts_apply, Cert.Reads.acts]
  refine congrArg (mulLeft (m ((c : Thread nD τ).loc main_arg0) (ValueIdx.ix3 b 0 k))) ?_
  exact Cert.Equal.weightAt_eq _ _ _ _ _ _ _ _ o _ (fun r => Cert.Reads.up_low m c t r o) (fun r => Cert.Reads.up_high m c t r o)
    (fun n u => Cert.Reads.up_scale m c t n u o) (fun n => Cert.Reads.up_super m c t n o) k

/-- A block of the kernel's results is the reference's at the block's place. -/
theorem tile_eq (c : Dev nD) (t : Fin cfg0.N) (b : Fin 256) (o : Fin 512) :
    Cert.Block.tile (iblk m c 0 t) (iblk m c 1 t) (iblk m c 2 t) (iblk m c 3 t) (iblk m c 4 t) (iblk m c 5 t) (iblk m c 6 t) (iblk m c 7 t)
        (iblk m c 8 t) (ValueIdx.ix2 b o)
      = REF m c (ValueIdx.ix2 b ⟨512 * t.val + o.val, by have := Cert.Reads.lt74 t; omega⟩) := by
  show Cert.Block.gated (Cert.Block.proj (iblk m c 0 t) (iblk m c 1 t) (iblk m c 2 t) (iblk m c 3 t) (iblk m c 4 t) b o)
    (Cert.Block.proj (iblk m c 0 t) (iblk m c 5 t) (iblk m c 6 t) (iblk m c 7 t) (iblk m c 8 t) b o) = _
  rw [gate_proj, up_proj]
  refine Eq.symm ((congrFun (reference_eq (F := Ideal) _ _ _ _ _ _ _ _ _) _).trans ?_)
  exact Cert.RefWeights.output_apply _ _ _ b _

/-- The kernel's array after the run. -/
theorem final (c : Dev nD) : (dats m 0 c).arrAt 9 (cfgs 0).N = REF m c := by
  refine (dats m 0 c).arrAt_eq_of_covers 9 _ (by decide +kernel) fun t _ y => ?_
  blk_simp
  rw [after0_9]
  unfold outsAt0
  refine (Cert.Block.out_apply _ _ _ _ _ _ _ _ _ _ _ _ _ _ _ _ _ _ _ _ _ _ _ _ _ _ _ _ _ _ _ _ _ _ _ y).trans ?_
  obtain ⟨b, o, rfl⟩ : ∃ (b : Fin 256) (o : Fin 512), y = ValueIdx.ix2 b o := ⟨y 0, y 1, ValueIdx.eq_ix2 y⟩
  refine (tile_eq m c t b o).trans ?_
  have h := Cert.Reads.lt74 t
  refine congrArg (REF m c) ?_
  blk_ext [Cert.Reads.idx t]
  show 512 * t.val + o.val = t.val * 512 + o.val
  omega

end Cert.Final
-- ==== Proof.lean ====
/- The claims about the kernel and the reference: the frames come from the generated modules, the rewrites from the proved
   rules, and the equality of the two arrays over the extended reals from `Cert.Final.final`. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Final
public import Idealize.ShloMosaic.Lib.Bf16Pair
public import Idealize.ShloMosaic.Lib.Bf16PairInverse
public import Idealize.ShloMosaic.Adequacy
public import Idealize.ShloMosaic.Init

@[expose] public section

noncomputable section

namespace Cert.Proof

open Idealize.ShloMosaic Idealize.SL.Sem Cert.Kernel

/-- The kernel and the reference, over the extended reals, leave the same array. -/
theorem algebraic : Cert.algebraic_KernelIdeal_ReferenceIdeal := by
  pair_intro
  · run_from Cert.KernelIdeal.Value.run_blocks m g
  · run_from Cert.ReferenceIdeal.Value.run m' g'
    exact (Cert.Final.final m c).symm

/-- Every claim: the three frames, the rewrites, the equality of the arrays. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  ⟨IdealRules.bf16_pair.bufferStatement _ _, IdealRules.bf16_pair.packStatement _, IdealRules.bf16_pair.statement _ _,
    IdealRules.bf16_pair.statement _ _, IdealRules.bf16_pair.statement _ _⟩,
  algebraic⟩

end Cert.Proof

end
